-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "s" .f32 0x3B810204#32 ((254⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x256 : Shape := ⟨2, ![10000, 256]⟩
abbrev S10000x10000 : Shape := ⟨2, ![10000, 10000]⟩
abbrev S10000 : Shape := ⟨1, ![10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128 .f32) (main_arg9 : FVec F S128x64 .f32) (main_arg10 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x128 .f32) (main_arg8 : FVec F S128 .f32) (main_arg9 : FVec F S128x64 .f32) (main_arg10 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x256 .f32) (main_arg1 : FVec F S10000x10000 .f32) (main_arg2 : IVec S10000 32) (main_arg3 : FVec F S256x256 .f32) (main_arg4 : FVec F S256 .f32) (main_arg5 : FVec F S256x256 .f32) (main_arg6 : FVec F S256 .f32) (main_arg7 : FVec F S256x128 .f32) (main_arg8 : FVec F S128 .f32) (main_arg9 : FVec F S128x64 .f32) (main_arg10 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S10000x256 : Shape := ⟨2, ![10000, 256]⟩
abbrev S10000x10000 : Shape := ⟨2, ![10000, 10000]⟩
abbrev S10000 : Shape := ⟨1, ![10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1000x256 : Shape := ⟨2, ![1000, 256]⟩
abbrev S1x256 : Shape := ⟨2, ![1, 256]⟩
abbrev S25x400x10000 : Shape := ⟨3, ![25, 400, 10000]⟩
abbrev S400x10000 : Shape := ⟨2, ![400, 10000]⟩
abbrev S400x256 : Shape := ⟨2, ![400, 256]⟩
abbrev S1x400x10000 : Shape := ⟨3, ![1, 400, 10000]⟩
abbrev S10000x128 : Shape := ⟨2, ![10000, 128]⟩
abbrev S1x128 : Shape := ⟨2, ![1, 128]⟩
abbrev S400x128 : Shape := ⟨2, ![400, 128]⟩
abbrev S25x1x400 : Shape := ⟨3, ![25, 1, 400]⟩
abbrev S1x64 : Shape := ⟨2, ![1, 64]⟩
abbrev S64x64 : Shape := ⟨2, ![64, 64]⟩
abbrev S1x1x400 : Shape := ⟨3, ![1, 1, 400]⟩
abbrev S400x64 : Shape := ⟨2, ![400, 64]⟩
abbrev S1x400 : Shape := ⟨2, ![1, 400]⟩
abbrev S64x400 : Shape := ⟨2, ![64, 400]⟩
abbrev S64x1 : Shape := ⟨2, ![64, 1]⟩

abbrev nBuf : Space → Nat
  | .hbm => 23
  | .vmem => 34
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S10000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S10000x256, .bf16⟩
  | .hbm, ⟨12, _⟩ => ⟨S1x256, .f32⟩
  | .hbm, ⟨13, _⟩ => ⟨S10000x256, .bf16⟩
  | .hbm, ⟨14, _⟩ => ⟨S25x400x10000, .i8⟩
  | .hbm, ⟨15, _⟩ => ⟨S1x256, .f32⟩
  | .hbm, ⟨16, _⟩ => ⟨S1x256, .f32⟩
  | .hbm, ⟨17, _⟩ => ⟨S10000x128, .bf16⟩
  | .hbm, ⟨18, _⟩ => ⟨S1x128, .f32⟩
  | .hbm, ⟨19, _⟩ => ⟨S25x1x400, .i32⟩
  | .hbm, ⟨20, _⟩ => ⟨S1x128, .f32⟩
  | .hbm, ⟨21, _⟩ => ⟨S1x64, .f32⟩
  | .hbm, ⟨22, _⟩ => ⟨S64x64, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1000x256, .bf16⟩
  | .local _ .vmem, ⟨4, _⟩ => ⟨S1000x256, .bf16⟩
  | .local _ .vmem, ⟨5, _⟩ => ⟨S400x10000, .f32⟩
  | .local _ .vmem, ⟨6, _⟩ => ⟨S400x10000, .f32⟩
  | .local _ .vmem, ⟨7, _⟩ => ⟨S10000x256, .bf16⟩
  | .local _ .vmem, ⟨8, _⟩ => ⟨S1x256, .f32⟩
  | .local _ .vmem, ⟨9, _⟩ => ⟨S256x256, .f32⟩
  | .local _ .vmem, ⟨10, _⟩ => ⟨S400x256, .bf16⟩
  | .local _ .vmem, ⟨11, _⟩ => ⟨S400x256, .bf16⟩
  | .local _ .vmem, ⟨12, _⟩ => ⟨S1x400x10000, .i8⟩
  | .local _ .vmem, ⟨13, _⟩ => ⟨S1x400x10000, .i8⟩
  | .local _ .vmem, ⟨14, _⟩ => ⟨S1x256, .f32⟩
  | .local _ .vmem, ⟨15, _⟩ => ⟨S1x400x10000, .i8⟩
  | .local _ .vmem, ⟨16, _⟩ => ⟨S1x400x10000, .i8⟩
  | .local _ .vmem, ⟨17, _⟩ => ⟨S10000x256, .bf16⟩
  | .local _ .vmem, ⟨18, _⟩ => ⟨S1x256, .f32⟩
  | .local _ .vmem, ⟨19, _⟩ => ⟨S1x256, .f32⟩
  | .local _ .vmem, ⟨20, _⟩ => ⟨S256x128, .f32⟩
  | .local _ .vmem, ⟨21, _⟩ => ⟨S400x128, .bf16⟩
  | .local _ .vmem, ⟨22, _⟩ => ⟨S400x128, .bf16⟩
  | .local _ .vmem, ⟨23, _⟩ => ⟨S1x128, .f32⟩
  | .local _ .vmem, ⟨24, _⟩ => ⟨S1x400x10000, .i8⟩
  | .local _ .vmem, ⟨25, _⟩ => ⟨S1x400x10000, .i8⟩
  | .local _ .vmem, ⟨26, _⟩ => ⟨S10000x128, .bf16⟩
  | .local _ .vmem, ⟨27, _⟩ => ⟨S1x128, .f32⟩
  | .local _ .vmem, ⟨28, _⟩ => ⟨S1x128, .f32⟩
  | .local _ .vmem, ⟨29, _⟩ => ⟨S128x64, .f32⟩
  | .local _ .vmem, ⟨30, _⟩ => ⟨S1x64, .f32⟩
  | .local _ .vmem, ⟨31, _⟩ => ⟨S1x1x400, .i32⟩
  | .local _ .vmem, ⟨32, _⟩ => ⟨S1x1x400, .i32⟩
  | .local _ .vmem, ⟨33, _⟩ => ⟨S64x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg6_1 : Ref sig .tc := ⟨.vmem, 32, rfl⟩
abbrev cc3_stg7_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc2_sem6_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem6_1 : DmaSem sig := 32
abbrev cc3_sem7_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x400x10000 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x400x10000 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x400x10000 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x1x400 .i32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]
-- ==== KernelIdeal.lean ====
variable {F : FTy → Type} [FloatOps F] [Named F]
def κ : String → Option EReal := fun
  | "s" => some ((254⁻¹ : ℝ) : EReal)
  | _ => none
-- ==== ReferenceIdeal.lean ====
abbrev S10000x256 : Shape := ⟨2, ![10000, 256]⟩
abbrev S10000x10000 : Shape := ⟨2, ![10000, 10000]⟩
abbrev S10000 : Shape := ⟨1, ![10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S1x256 : Shape := ⟨2, ![1, 256]⟩
abbrev S10000x128 : Shape := ⟨2, ![10000, 128]⟩
abbrev S1x128 : Shape := ⟨2, ![1, 128]⟩
abbrev S10000x64 : Shape := ⟨2, ![10000, 64]⟩
abbrev S1x64 : Shape := ⟨2, ![1, 64]⟩
abbrev S64x64 : Shape := ⟨2, ![64, 64]⟩
abbrev S10000x1 : Shape := ⟨2, ![10000, 1]⟩
abbrev S64x1 : Shape := ⟨2, ![64, 1]⟩

abbrev nBuf : Space → Nat
  | .hbm => 79
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S10000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S10000x10000, .f32⟩
  | .hbm, ⟨13, _⟩ => ⟨S10000x10000, .f32⟩
  | .hbm, ⟨14, _⟩ => ⟨S_, .f32⟩
  | .hbm, ⟨15, _⟩ => ⟨S10000x10000, .f32⟩
  | .hbm, ⟨16, _⟩ => ⟨S10000x10000, .f32⟩
  | .hbm, ⟨17, _⟩ => ⟨S10000x10000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S10000x10000, .f32⟩
  | .hbm, ⟨22, _⟩ => ⟨S10000x10000, .f32⟩
  | .hbm, ⟨23, _⟩ => ⟨S_, .f32⟩
  | .hbm, ⟨24, _⟩ => ⟨S10000x10000, .f32⟩
  | .hbm, ⟨25, _⟩ => ⟨S10000x10000, .f32⟩
  | .hbm, ⟨26, _⟩ => ⟨S_, .f32⟩
  | .hbm, ⟨27, _⟩ => ⟨S10000x10000, .f32⟩
  | .hbm, ⟨28, _⟩ => ⟨S10000x10000, .f32⟩
  | .hbm, ⟨29, _⟩ => ⟨S_, .f32⟩
  | .hbm, ⟨30, _⟩ => ⟨S10000x10000, .f32⟩
  | .hbm, ⟨31, _⟩ => ⟨S10000x10000, .f32⟩
  | .hbm, ⟨32, _⟩ => ⟨S10000x256, .f32⟩
  | .hbm, ⟨33, _⟩ => ⟨S10000x256, .f32⟩
  | .hbm, ⟨34, _⟩ => ⟨S1x256, .f32⟩
  | .hbm, ⟨35, _⟩ => ⟨S10000x256, .f32⟩
  | .hbm, ⟨36, _⟩ => ⟨S10000x256, .f32⟩
  | .hbm, ⟨37, _⟩ => ⟨S_, .f32⟩
  | .hbm, ⟨38, _⟩ => ⟨S10000x256, .f32⟩
  | .hbm, ⟨39, _⟩ => ⟨S10000x256, .f32⟩
  | .hbm, ⟨40, _⟩ => ⟨S10000x256, .f32⟩
  | .hbm, ⟨41, _⟩ => ⟨S10000x256, .f32⟩
  | .hbm, ⟨42, _⟩ => ⟨S1x256, .f32⟩
  | .hbm, ⟨43, _⟩ => ⟨S10000x256, .f32⟩
  | .hbm, ⟨44, _⟩ => ⟨S10000x256, .f32⟩
  | .hbm, ⟨45, _⟩ => ⟨S_, .f32⟩
  | .hbm, ⟨46, _⟩ => ⟨S10000x256, .f32⟩
  | .hbm, ⟨47, _⟩ => ⟨S10000x256, .f32⟩
  | .hbm, ⟨48, _⟩ => ⟨S10000x256, .f32⟩
  | .hbm, ⟨49, _⟩ => ⟨S10000x128, .f32⟩
  | .hbm, ⟨50, _⟩ => ⟨S1x128, .f32⟩
  | .hbm, ⟨51, _⟩ => ⟨S10000x128, .f32⟩
  | .hbm, ⟨52, _⟩ => ⟨S10000x128, .f32⟩
  | .hbm, ⟨53, _⟩ => ⟨S_, .f32⟩
  | .hbm, ⟨54, _⟩ => ⟨S10000x128, .f32⟩
  | .hbm, ⟨55, _⟩ => ⟨S10000x128, .f32⟩
  | .hbm, ⟨56, _⟩ => ⟨S10000x64, .f32⟩
  | .hbm, ⟨57, _⟩ => ⟨S1x64, .f32⟩
  | .hbm, ⟨58, _⟩ => ⟨S10000x64, .f32⟩
  | .hbm, ⟨59, _⟩ => ⟨S10000x64, .f32⟩
  | .hbm, ⟨60, _⟩ => ⟨S_, .f32⟩
  | .hbm, ⟨61, _⟩ => ⟨S64x64, .f32⟩
  | .hbm, ⟨62, _⟩ => ⟨S10000x1, .i32⟩
  | .hbm, ⟨63, _⟩ => ⟨S64x64, .f32⟩
  | .hbm, ⟨64, _⟩ => ⟨S_, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64x1, .f32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S_, .f32⟩
  | .hbm, ⟨74, _⟩ => ⟨S64, .f32⟩
  | .hbm, ⟨75, _⟩ => ⟨S64x1, .f32⟩
  | .hbm, ⟨76, _⟩ => ⟨S64x1, .f32⟩
  | .hbm, ⟨77, _⟩ => ⟨S64x64, .f32⟩
  | .hbm, ⟨78, _⟩ => ⟨S64x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_cst_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v5 : Ref sig .tc := ⟨.hbm, 25, rfl⟩
abbrev main_cst_3 : Ref sig .tc := ⟨.hbm, 26, rfl⟩
abbrev main_v6 : Ref sig .tc := ⟨.hbm, 27, rfl⟩
abbrev main_v7 : Ref sig .tc := ⟨.hbm, 28, rfl⟩
abbrev main_cst_4 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call2_cst : Ref sig .tc := ⟨.hbm, 37, rfl⟩
abbrev main_call2_v0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_call3_cst : Ref sig .tc := ⟨.hbm, 45, rfl⟩
abbrev main_call3_v0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_call4_cst : Ref sig .tc := ⟨.hbm, 53, rfl⟩
abbrev main_call4_v0 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_call5_cst : Ref sig .tc := ⟨.hbm, 64, rfl⟩
abbrev main_call5_v0 : Ref sig .tc := ⟨.hbm, 65, rfl⟩
abbrev main_call5_cst_0 : Ref sig .tc := ⟨.hbm, 66, rfl⟩
abbrev main_call5_v1 : Ref sig .tc := ⟨.hbm, 67, rfl⟩
abbrev main_call5_v2 : Ref sig .tc := ⟨.hbm, 68, rfl⟩
abbrev main_call5_v3 : Ref sig .tc := ⟨.hbm, 69, rfl⟩
abbrev main_call5_v4 : Ref sig .tc := ⟨.hbm, 70, rfl⟩
abbrev main_call5_v5 : Ref sig .tc := ⟨.hbm, 71, rfl⟩
abbrev main_call5_v6 : Ref sig .tc := ⟨.hbm, 72, rfl⟩
abbrev main_call5_cst_1 : Ref sig .tc := ⟨.hbm, 73, rfl⟩
abbrev main_call5_v7 : Ref sig .tc := ⟨.hbm, 74, rfl⟩
abbrev main_call5_v8 : Ref sig .tc := ⟨.hbm, 75, rfl⟩
abbrev main_call5_v9 : Ref sig .tc := ⟨.hbm, 76, rfl⟩
abbrev main_call5_v10 : Ref sig .tc := ⟨.hbm, 77, rfl⟩
abbrev main_v35 : Ref sig .tc := ⟨.hbm, 78, rfl⟩

abbrev nD : Nat := 1
abbrev τ : Topo := Topo.v7x

variable {F : FTy → Type} [FloatOps F]
-- ==== Proof.Run.lean ====
module

public import proofs.«01_k».proof.Proof.Gen.KernelIdeal.Frame

/-!
The kernel's run, with what its result array holds at the end: the contents the last of the four regions leaves.
-/

@[expose] public section

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- From any memory with zero counters every execution ends with the result array at the last region's contents and
    every argument as launched. -/
theorem valueRun : θ_run defs (onTc (τ := τ) (main (F := F))) ⟨m, fun _ => 0, ρ⟩ (fun r => ∀ c : Dev nD,
      r.2.mem ((c.tc : Thread nD τ).loc main_v8) = W7 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v8 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Gcn
-- ==== Proof.Region0.lean ====
module

public import proofs.«01_k».proof.Proof.Gen.KernelIdeal.Frame
public import Idealize.ShloMosaic.Lib.Pipeline.ValueKit
public import Idealize.ShloMosaic.Lib.Pointwise

/-!
The first kernel, at any contents `V` its region finds: after its ten points the projected features are, entry by
entry, the rows of the input features times the columns of the first weight matrix.
-/

@[expose] public section

set_option maxRecDepth 16384

noncomputable section

namespace Cert.KernelIdeal.Gcn

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Features times weights, entry by entry. -/
def G0 (x : FVec Ideal S10000x256 .f32) (w : FVec Ideal S256x256 .f32) : FVec Ideal S10000x256 .bf16 :=
  fun j => ∑ k : Fin 256, x (ix2 (j 0) k) * w (ix2 k (j 1))

/-- Where the blocks of point `t` lie. -/
theorem idx0 : ∀ t : Fin cfg0.N, win0_0.index t = ![t.val, 0] ∧ win0_1.index t = ![0, 0] ∧ win0_2.index t = ![t.val, 0] :=
  (by decide +kernel : ∀ t : Fin grid0.N, _)

/-- What point `t` stores is the block of the product. -/
theorem point0 (c : Dev nD) (t : Fin cfg0.N) (y) : k0_pay1 (iblk0 V c 0 t) (iblk0 V c 1 t) y
    = G0 (V c main_arg0) (V c main_arg3) (((cfg0.win 2).blk t).view.emb y) := by
  pointwise [k0_pay1, G0]
  blk_point [iblk0, idx0 t]

/-- The projected features after the run. -/
theorem final0 (c : Dev nD) : (dat0 V c).arrAt 2 cfg0.N = G0 (V c main_arg0) (V c main_arg3) := by
  refine (dat0 V c).arrAt_eq_of_covers 2 _ (by decide +kernel) fun t _ y => ?_
  blk_simp
  rw [after0_2]; frame_out
  exact point0 V c t y

end Cert.KernelIdeal.Gcn
-- ==== Proof.Pay.lean ====
module

public import proofs.«01_k».proof.Proof.Gen.KernelIdeal.Skeleton
public import Idealize.ShloMosaic.Lib.Pointwise
public import Idealize.ShloMosaic.Lib.ValueIdx
public import Idealize.ShloMosaic.PureOps.Ideal.Laws

/-!
What each kernel body computes from the blocks it loads, read at one element: the stored block as plain sums of
products. Nothing here mentions the grid.
-/

@[expose] public section

set_option maxRecDepth 16384

noncomputable section

namespace Cert.KernelIdeal.Gcn

open Cert.KernelIdeal Cert.KernelIdeal.Gen Idealize.ShloMosaic Idealize.ShloMosaic.TcCoe Idealize.SL.Sem

/-- The projection block: features times weights. -/
theorem pay0 (x : FVec Ideal S1000x256 .f32) (w : FVec Ideal S256x256 .f32) (r : Fin 1000) (l : Fin 256) :
    (k0_pay1 (F := Ideal) x w (ix2 r l) : EReal) = ∑ k : Fin 256, x (ix2 r k) * w (ix2 k l) := by
  pointwise [k0_pay1]

/-- The first layer's block: adjacency rows times the projected features, bias, clipping at zero, next weights. -/
theorem pay1 (a : FVec Ideal S400x10000 .f32) (h : FVec Ideal S10000x256 .bf16) (b : FVec Ideal S1x256 .f32)
    (w : FVec Ideal S256x256 .f32) (q : Fin 400) (l : Fin 256) :
    (k1_pay1 (F := Ideal) a h b w (ix2 q l) : EReal)
      = ∑ k : Fin 256, max ((∑ p : Fin 10000, a (ix2 q p) * h (ix2 p k)) + b (ix2 0 k)) 0 * w (ix2 k l) := by
  pointwise [k1_pay1]

/-- Storing it in the half-width format changes nothing. -/
theorem pay1t (a : FVec Ideal S400x10000 .f32) (h : FVec Ideal S10000x256 .bf16) (b : FVec Ideal S1x256 .f32)
    (w : FVec Ideal S256x256 .f32) : k1_pay2 (F := Ideal) a h b w = k1_pay1 (F := Ideal) a h b w := rfl

/-- The zero the column sums start from. -/
theorem pay1z (j : S1x256.Idx) : (k1_pay4 (F := Ideal) j : EReal) = 0 := by
  pointwise [k1_pay4]

/-- One step of the column sums. -/
theorem pay1s (a : FVec Ideal S400x10000 .f32) (h : FVec Ideal S10000x256 .bf16) (b : FVec Ideal S1x256 .f32)
    (w : FVec Ideal S256x256 .f32) (acc : FVec Ideal S1x256 .f32) (j : S1x256.Idx) :
    (k1_pay5 (F := Ideal) a h b w acc j : EReal)
      = acc j + ∑ q : Fin 400, k1_pay1 (F := Ideal) a h b w (ix2 q (j 1)) := by
  idx_vars j
  pointwise [k1_pay5]

/-- The code of one adjacency entry: the shifted and scaled entry, rounded and converted to eight bits. -/
def codeE (r : EReal) : BitVec 8 :=
  FloatOps.fptosi (F := Ideal) (φ := .f32) 8 (Ideal.liftRound Ideal.roundHalfEven
    ((r - Ideal.ofBits .f32 0x3F000000#32) * Ideal.ofBits .f32 0x437E0000#32))

/-- The block of codes. -/
theorem pay1c (a : FVec Ideal S400x10000 .f32) (u : Fin 1) (q : Fin 400) (p : Fin 10000) :
    k1_pay3 (F := Ideal) a (ix3 u q p) = codeE (a (ix2 q p)) := by
  pointwise [k1_pay3, codeE]

/-- A later layer's pre-activation row entry from its row of codes: the scaled product, half the column sum and the
    bias, clipped at zero. -/
def actE {d : ℕ} (a : Fin 10000 → BitVec 8) (h : Fin 10000 → Fin d → EReal) (s b : Fin d → EReal) (k : Fin d) : EReal :=
  max ((∑ p : Fin 10000, (FloatOps.sitofp (F := Ideal) .bf16 (a p) : EReal) * h p k) * (Named.named (F := Ideal) (φ := .f32) κ "s" 0x3B810204#32 : EReal)
    + Ideal.ofBits .f32 0x3F000000#32 * s k + b k) 0

/-- The second layer's block. -/
theorem pay2 (a : IVec S1x400x10000 8) (h : FVec Ideal S10000x256 .bf16) (s b : FVec Ideal S1x256 .f32)
    (w : FVec Ideal S256x128 .f32) (q : Fin 400) (l : Fin 128) :
    (k2_pay1 (F := Ideal) a h s b w (ix2 q l) : EReal)
      = ∑ k : Fin 256, actE (fun p => a (ix3 0 q p)) (fun p k => h (ix2 p k)) (fun k => s (ix2 0 k)) (fun k => b (ix2 0 k)) k
          * w (ix2 k l) := by
  pointwise [k2_pay1, actE]

/-- Storing it in the half-width format changes nothing. -/
theorem pay2t (a : IVec S1x400x10000 8) (h : FVec Ideal S10000x256 .bf16) (s b : FVec Ideal S1x256 .f32)
    (w : FVec Ideal S256x128 .f32) : k2_pay2 (F := Ideal) a h s b w = k2_pay1 (F := Ideal) a h s b w := rfl

/-- The zero the column sums start from. -/
theorem pay2z (j : S1x128.Idx) : (k2_pay3 (F := Ideal) j : EReal) = 0 := by
  pointwise [k2_pay3]

/-- One step of the column sums. -/
theorem pay2s (a : IVec S1x400x10000 8) (h : FVec Ideal S10000x256 .bf16) (s b : FVec Ideal S1x256 .f32)
    (w : FVec Ideal S256x128 .f32) (acc : FVec Ideal S1x128 .f32) (j : S1x128.Idx) :
    (k2_pay4 (F := Ideal) a h s b w acc j : EReal)
      = acc j + ∑ q : Fin 400, k2_pay1 (F := Ideal) a h s b w (ix2 q (j 1)) := by
  idx_vars j
  pointwise [k2_pay4]

/-- Whether row `x` belongs to segment `g`, as the number the kernel multiplies by. -/
def hotE (g : Fin 64) (x : BitVec 32) : EReal :=
  FloatOps.sitofp (F := Ideal) .f32 (BitVec.setWidth 32 (IntOp.cmpi .eq (BitVec.ofNat 32 g.val) x))

/-- What one block of rows adds to the pooled segments. -/
theorem pay3 (a : IVec S1x400x10000 8) (h : FVec Ideal S10000x128 .bf16) (s b : FVec Ideal S1x128 .f32)
    (w : FVec Ideal S128x64 .f32) (d : FVec Ideal S1x64 .f32) (ids : IVec S1x1x400 32) (g : Fin 64) (l : Fin 64) :
    (k3_pay4 (F := Ideal) a h s b w d ids (ix2 g l) : EReal)
      = ∑ q : Fin 400, hotE g (ids (ix3 0 0 q)) *
          ((∑ k : Fin 128, actE (fun p => a (ix3 0 q p)) (fun p k => h (ix2 p k)) (fun k => s (ix2 0 k))
              (fun k => b (ix2 0 k)) k * w (ix2 k l)) + d (ix2 0 l)) := by
  pointwise [k3_pay4, actE, hotE]

/-- The zero the pooled segments start from. -/
theorem pay3z (j : S64x64.Idx) : (k3_pay1 (F := Ideal) j : EReal) = 0 := by
  pointwise [k3_pay1]

/-- One step of the pooling. -/
theorem pay3s (v acc : FVec Ideal S64x64 .f32) (j : S64x64.Idx) :
    (k3_pay2 (F := Ideal) v acc j : EReal) = acc j + v j := by
  idx_vars j
  pointwise [k3_pay2]

/-- The largest entry of a row. -/
def topE (o : Fin 64 → EReal) : EReal := Finset.univ.fold max (Ideal.ofBits .f32 0xFF800000#32) o

/-- The last step: the row less the logarithm of its sum of exponentials, taken about its largest entry. -/
theorem pay3f (o : FVec Ideal S64x64 .f32) (g : Fin 64) (l : Fin 64) :
    (k3_pay3 (F := Ideal) o (ix2 g l) : EReal)
      = o (ix2 g l) - (Ideal.log (∑ k : Fin 64, Ideal.exp (o (ix2 g k) - topE (fun k => o (ix2 g k))))
          + topE (fun k => o (ix2 g k))) := by
  pointwise [k3_pay3, topE]

end Cert.KernelIdeal.Gcn
-- ==== Proof.Region1.lean ====
module

public import proofs.«01_k».proof.Proof.Gen.KernelIdeal.Frame
public import proofs.«01_k».proof.Proof.Pay
public import Idealize.ShloMosaic.Lib.Pipeline.ValueKit
public import Idealize.ShloMosaic.Lib.Pointwise

/-!
The first layer's kernel, at any contents `V` its region finds: the second layer's features, the codes of the adjacency
matrix in 25 slabs of 400 rows, and the column sums of the features after its 25 points.
-/

@[expose] public section

set_option maxRecDepth 16384

noncomputable section

namespace Cert.KernelIdeal.Gcn

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The second layer's features, entry by entry. -/
def G1 (a : FVec Ideal S10000x10000 .f32) (h : FVec Ideal S10000x256 .bf16) (b : FVec Ideal S1x256 .f32)
    (w : FVec Ideal S256x256 .f32) : FVec Ideal S10000x256 .bf16 :=
  fun j => ∑ k : Fin 256, max ((∑ p : Fin 10000, a (ix2 (j 0) p) * h (ix2 p k)) + b (ix2 0 k)) 0 * w (ix2 k (j 1))

/-- The codes: slab `t`, row `q` holds the codes of adjacency row `400 t + q`. -/
def G1c (a : FVec Ideal S10000x10000 .f32) : IVec S25x400x10000 8 :=
  fun j => codeE (a (ix2 ⟨(j 0).val * 400 + (j 1).val, by have h0 : (j 0).val < 25 := (j 0).isLt; have h1 : (j 1).val < 400 := (j 1).isLt; omega⟩ (j 2)))

/-- The column sums of the second layer's features. -/
def G1s (a : FVec Ideal S10000x10000 .f32) (h : FVec Ideal S10000x256 .bf16) (b : FVec Ideal S1x256 .f32)
    (w : FVec Ideal S256x256 .f32) : FVec Ideal S1x256 .f32 :=
  fun j => ∑ i : Fin 10000, G1 a h b w (ix2 i (j 1))

/-- Where the blocks of point `t` lie. -/
theorem idx1 : ∀ t : Fin cfg1.N, win1_0.index t = ![t.val, 0] ∧ win1_1.index t = ![0, 0] ∧ win1_2.index t = ![0, 0]
    ∧ win1_3.index t = ![0, 0] ∧ win1_4.index t = ![t.val, 0] ∧ win1_5.index t = ![t.val, 0, 0]
    ∧ win1_6.index t = ![0, 0] :=
  (by decide +kernel : ∀ t : Fin grid1.N, _)

/-- What point `t` computes is its block of the features. -/
theorem point1 (c : Dev nD) (t : Fin cfg1.N) (y) :
    k1_pay1 (F := Ideal) (iblk1 V c 0 t) (iblk1 V c 1 t) (iblk1 V c 2 t) (iblk1 V c 3 t) y
      = G1 (V c main_arg1) (V c main_v0) (V c main_v1) (V c main_arg5) (((cfg1.win 4).blk t).view.emb y) := by
  pointwise [k1_pay1, G1]
  blk_point [iblk1, idx1 t]

/-- What point `t` encodes is its slab of the codes. -/
theorem point1c (c : Dev nD) (t : Fin cfg1.N) (y) :
    k1_pay3 (F := Ideal) (iblk1 V c 0 t) y = G1c (V c main_arg1) (((cfg1.win 5).blk t).view.emb y) := by
  pointwise [k1_pay3, G1c, codeE]
  blk_point [iblk1, idx1 t]

/-- The features after the run. -/
theorem final1 (c : Dev nD) : (dat1 V c).arrAt 4 cfg1.N
    = G1 (V c main_arg1) (V c main_v0) (V c main_v1) (V c main_arg5) := by
  refine (dat1 V c).arrAt_eq_of_covers 4 _ (by decide +kernel) fun t _ y => ?_
  blk_simp
  rw [after1_4]
  by_cases h : t.val % 25 = 0
  · rw [outsAt1_A V c t h]; frame_out
    rw [pay1t]; exact point1 V c t y
  · rw [outsAt1_B V c t h]; frame_out
    rw [pay1t]; exact point1 V c t y

/-- The codes after the run. -/
theorem final1c (c : Dev nD) : (dat1 V c).arrAt 5 cfg1.N = G1c (V c main_arg1) := by
  refine (dat1 V c).arrAt_eq_of_covers 5 _ (by decide +kernel) fun t _ y => ?_
  blk_simp
  rw [after1_5]
  by_cases h : t.val % 25 = 0
  · rw [outsAt1_A V c t h]; frame_out
    exact point1c V c t y
  · rw [outsAt1_B V c t h]; frame_out
    exact point1c V c t y

/-- The column sums after the run. -/
theorem final1s (c : Dev nD) : (dat1 V c).arrAt 6 cfg1.N
    = G1s (V c main_arg1) (V c main_v0) (V c main_v1) (V c main_arg5) := by
  refine (dat1 V c).arrAt_eq_of_covers 6 _ (by decide +kernel) fun t hf y => ?_
  blk_simp
  rw [after1_6, Pipeline.eq_sum_fin_of_reset_step_apply_of_flush (fun n h => (outsAt1 V c n h).2.2) 25 (fun _ => (0 : EReal))
    (fun t y => ∑ q : Fin 400, (k1_pay1 (F := Ideal) (iblk1 V c 0 t) (iblk1 V c 1 t) (iblk1 V c 2 t) (iblk1 V c 3 t) (ix2 q (y 1)) : EReal))
    (fun t h j => by rw [outsAt1_A V c t h]; frame_out; rw [pay1s, pay1z])
    (fun t h j => by rw [outsAt1_B V c t h]; frame_out; rw [pay1s]) t ((flush1_6 t).mp hf) _, zero_add]
  refine Fin.sum_mul_add_congr fun s k hl => ?_
  rw [point1]
  unfold G1
  blk_point [idx1 ⟨_, Pipeline.run_point_lt_of_flush t ((flush1_6 t).mp hf) s⟩, idx1 t]

end Cert.KernelIdeal.Gcn
-- ==== Proof.Region2.lean ====
module

public import proofs.«01_k».proof.Proof.Gen.KernelIdeal.Frame
public import proofs.«01_k».proof.Proof.Pay
public import Idealize.ShloMosaic.Lib.Pipeline.ValueKit
public import Idealize.ShloMosaic.Lib.Pointwise

/-!
The second layer's kernel, at any contents `V` its region finds: the third layer's features and their column sums after
its 25 points, from the codes, the features before and their column sums.
-/

@[expose] public section

set_option maxRecDepth 16384

noncomputable section

namespace Cert.KernelIdeal.Gcn

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The codes of row `i`, found in slab `i / 400`. -/
def codeRow (a : IVec S25x400x10000 8) (i : Fin 10000) (p : Fin 10000) : BitVec 8 :=
  a (ix3 ⟨i.val / 400, by have := i.isLt; omega⟩ ⟨i.val % 400, Nat.mod_lt _ (by norm_num)⟩ p)

/-- The third layer's features, entry by entry. -/
def G2 (a : IVec S25x400x10000 8) (h : FVec Ideal S10000x256 .bf16) (s b : FVec Ideal S1x256 .f32)
    (w : FVec Ideal S256x128 .f32) : FVec Ideal S10000x128 .bf16 :=
  fun j => ∑ k : Fin 256, actE (codeRow a (j 0)) (fun p k => h (ix2 p k)) (fun k => s (ix2 0 k)) (fun k => b (ix2 0 k)) k
    * w (ix2 k (j 1))

/-- The column sums of the third layer's features. -/
def G2s (a : IVec S25x400x10000 8) (h : FVec Ideal S10000x256 .bf16) (s b : FVec Ideal S1x256 .f32)
    (w : FVec Ideal S256x128 .f32) : FVec Ideal S1x128 .f32 :=
  fun j => ∑ i : Fin 10000, G2 a h s b w (ix2 i (j 1))

/-- Where the blocks of point `t` lie. -/
theorem idx2 : ∀ t : Fin cfg2.N, win2_0.index t = ![t.val, 0, 0] ∧ win2_1.index t = ![0, 0] ∧ win2_2.index t = ![0, 0]
    ∧ win2_3.index t = ![0, 0] ∧ win2_4.index t = ![0, 0] ∧ win2_5.index t = ![t.val, 0] ∧ win2_6.index t = ![0, 0] :=
  (by decide +kernel : ∀ t : Fin grid2.N, _)

/-- What point `t` computes is its block of the features. -/
theorem point2 (c : Dev nD) (t : Fin cfg2.N) (y) :
    k2_pay1 (F := Ideal) (iblk2 V c 0 t) (iblk2 V c 1 t) (iblk2 V c 2 t) (iblk2 V c 3 t) (iblk2 V c 4 t) y
      = G2 (V c main_v2_1) (V c main_v2_0) (V c main_v2_2) (V c main_v3) (V c main_arg7)
          (((cfg2.win 5).blk t).view.emb y) := by
  pointwise [k2_pay1, G2, actE, codeRow]
  blk_point [iblk2, idx2 t]

/-- The features after the run. -/
theorem final2 (c : Dev nD) : (dat2 V c).arrAt 5 cfg2.N
    = G2 (V c main_v2_1) (V c main_v2_0) (V c main_v2_2) (V c main_v3) (V c main_arg7) := by
  refine (dat2 V c).arrAt_eq_of_covers 5 _ (by decide +kernel) fun t _ y => ?_
  blk_simp
  rw [after2_5]
  by_cases h : t.val % 25 = 0
  · rw [outsAt2_A V c t h]; frame_out
    rw [pay2t]; exact point2 V c t y
  · rw [outsAt2_B V c t h]; frame_out
    rw [pay2t]; exact point2 V c t y

/-- The column sums after the run. -/
theorem final2s (c : Dev nD) : (dat2 V c).arrAt 6 cfg2.N
    = G2s (V c main_v2_1) (V c main_v2_0) (V c main_v2_2) (V c main_v3) (V c main_arg7) := by
  refine (dat2 V c).arrAt_eq_of_covers 6 _ (by decide +kernel) fun t hf y => ?_
  blk_simp
  rw [after2_6, Pipeline.eq_sum_fin_of_reset_step_apply_of_flush (fun n h => (outsAt2 V c n h).2) 25 (fun _ => (0 : EReal))
    (fun t y => ∑ q : Fin 400, (k2_pay1 (F := Ideal) (iblk2 V c 0 t) (iblk2 V c 1 t) (iblk2 V c 2 t) (iblk2 V c 3 t) (iblk2 V c 4 t) (ix2 q (y 1)) : EReal))
    (fun t h j => by rw [outsAt2_A V c t h]; frame_out; rw [pay2s, pay2z])
    (fun t h j => by rw [outsAt2_B V c t h]; frame_out; rw [pay2s]) t ((flush2_6 t).mp hf) _, zero_add]
  refine Fin.sum_mul_add_congr fun s k hl => ?_
  rw [point2]
  unfold G2 codeRow
  blk_point [idx2 ⟨_, Pipeline.run_point_lt_of_flush t ((flush2_6 t).mp hf) s⟩, idx2 t]

end Cert.KernelIdeal.Gcn
-- ==== Proof.Region3.lean ====
module

public import proofs.«01_k».proof.Proof.Gen.KernelIdeal.Frame
public import proofs.«01_k».proof.Proof.Region2
public import Idealize.ShloMosaic.Lib.Pipeline.ValueKit
public import Idealize.ShloMosaic.Lib.Pointwise

/-!
The last kernel, at any contents `V` its region finds: the pooled segments after its 25 points, each row's logarithm of
the sum of its exponentials taken off at the last one.
-/

@[expose] public section

set_option maxRecDepth 16384

noncomputable section

namespace Cert.KernelIdeal.Gcn

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The features of the last layer, entry by entry. -/
def G3y (a : IVec S25x400x10000 8) (h : FVec Ideal S10000x128 .bf16) (s b : FVec Ideal S1x128 .f32)
    (w : FVec Ideal S128x64 .f32) (d : FVec Ideal S1x64 .f32) (i : Fin 10000) (l : Fin 64) : EReal :=
  (∑ k : Fin 128, actE (codeRow a i) (fun p k => h (ix2 p k)) (fun k => s (ix2 0 k)) (fun k => b (ix2 0 k)) k
    * w (ix2 k l)) + d (ix2 0 l)

/-- The segment number of row `i`. -/
def idRow (ids : IVec S25x1x400 32) (i : Fin 10000) : BitVec 32 :=
  ids (ix3 ⟨i.val / 400, by have := i.isLt; omega⟩ 0 ⟨i.val % 400, Nat.mod_lt _ (by norm_num)⟩)

/-- The pooled segments. -/
def G3p (a : IVec S25x400x10000 8) (h : FVec Ideal S10000x128 .bf16) (s b : FVec Ideal S1x128 .f32)
    (w : FVec Ideal S128x64 .f32) (d : FVec Ideal S1x64 .f32) (ids : IVec S25x1x400 32) (g l : Fin 64) : EReal :=
  ∑ i : Fin 10000, hotE g (idRow ids i) * G3y a h s b w d i l

/-- The result: the pooled segments, each row less its logarithm of the sum of exponentials. -/
def G3 (a : IVec S25x400x10000 8) (h : FVec Ideal S10000x128 .bf16) (s b : FVec Ideal S1x128 .f32)
    (w : FVec Ideal S128x64 .f32) (d : FVec Ideal S1x64 .f32) (ids : IVec S25x1x400 32) : FVec Ideal S64x64 .f32 :=
  fun j => G3p a h s b w d ids (j 0) (j 1)
    - (Ideal.log (∑ k : Fin 64, Ideal.exp (G3p a h s b w d ids (j 0) k - topE (G3p a h s b w d ids (j 0))))
        + topE (G3p a h s b w d ids (j 0)))

/-- Where the blocks of point `t` lie. -/
theorem idx3 : ∀ t : Fin cfg3.N, win3_0.index t = ![t.val, 0, 0] ∧ win3_1.index t = ![0, 0] ∧ win3_2.index t = ![0, 0]
    ∧ win3_3.index t = ![0, 0] ∧ win3_4.index t = ![0, 0] ∧ win3_5.index t = ![0, 0] ∧ win3_6.index t = ![t.val, 0, 0]
    ∧ win3_7.index t = ![0, 0] :=
  (by decide +kernel : ∀ t : Fin grid3.N, _)

/-- What point `t` adds. -/
def part3 (c : Dev nD) (t : Fin cfg3.N) : FVec Ideal S64x64 .f32 :=
  k3_pay4 (F := Ideal) (iblk3 V c 0 t) (iblk3 V c 1 t) (iblk3 V c 2 t) (iblk3 V c 3 t) (iblk3 V c 4 t) (iblk3 V c 5 t)
    (iblk3 V c 6 t)

/-- What the points up to a run's last one but one have summed, and what the last adds: the pooled segments. -/
theorem part3_eq (c : Dev nD) (t : Fin cfg3.N) (g l : Fin 64) : (part3 V c t (ix2 g l) : EReal)
    = ∑ q : Fin 400, hotE g (idRow (V c main_v5) ⟨t.val * 400 + q.val, by have h1 := t.isLt; have h2 : cfg3.N = 25 := N_3; have h3 := q.isLt; omega⟩)
        * G3y (V c main_v2_1) (V c main_v4_0) (V c main_v4_1) (V c main_v6) (V c main_arg9) (V c main_v7)
            ⟨t.val * 400 + q.val, by have h1 := t.isLt; have h2 : cfg3.N = 25 := N_3; have h3 := q.isLt; omega⟩ l := by
  unfold part3
  rw [pay3]
  pointwise [G3y, actE, codeRow, idRow, hotE]
  blk_point [iblk3, idx3 t]

/-- The first point stores what it adds. -/
theorem reset3 (c : Dev nD) (t : Fin cfg3.N) (h : t.val % 25 = 0) (j : S64x64.Idx) :
    (outsAt3 V c t.val t.isLt j : EReal) = part3 V c t j := by
  rw [outsAt3_A V c t h (by omega)]; frame_out
  rw [pay3s, pay3z, zero_add]; rfl

/-- A later point adds to what it finds. -/
theorem step3 (c : Dev nD) (t : Fin cfg3.N) (h0 : ¬ t.val % 25 = 0) (h1 : ¬ t.val % 25 = 24) (j : S64x64.Idx) :
    (outsAt3 V c t.val t.isLt j : EReal)
      = outsAt3 V c (t.val - 1) (Nat.lt_of_le_of_lt (Nat.sub_le _ _) t.isLt) j + part3 V c t j := by
  rw [outsAt3_B V c t h0 h1]; frame_out
  rw [pay3s]; rfl

/-- The last point adds, then takes the logarithm of each row's sum of exponentials off. -/
theorem last3 (c : Dev nD) (t : Fin cfg3.N) (h1 : t.val % 25 = 24) :
    outsAt3 V c t.val t.isLt = k3_pay3 (F := Ideal) (k3_pay2 (F := Ideal) (part3 V c t)
      (outsAt3 V c (t.val - 1) (Nat.lt_of_le_of_lt (Nat.sub_le _ _) t.isLt))) := by
  rw [outsAt3_C V c t (by omega) h1]; frame_out
  rfl

/-- Before the last point: the sum of what the points so far add. -/
theorem acc3 (c : Dev nD) (j : S64x64.Idx) : ∀ (n : ℕ) (h : n < cfg3.N), n < 24 → (outsAt3 V c n h j : EReal)
    = ∑ s : Fin (n + 1), (part3 V c ⟨s.val, Nat.lt_of_lt_of_le s.isLt h⟩ j : EReal) := by
  intro n
  induction n with
  | zero =>
    intro h _
    rw [Fin.sum_univ_one]
    exact reset3 V c ⟨0, h⟩ (Nat.zero_mod _) j
  | succ n ih =>
    intro h hn
    have e := step3 V c ⟨n + 1, h⟩ (by dsimp only; omega) (by dsimp only; omega) j
    have i := ih (Nat.lt_of_succ_lt h) (by omega)
    rw [Fin.sum_univ_castSucc]
    refine e.trans ?_
    exact congrArg (· + (part3 V c ⟨n + 1, h⟩ j : EReal)) i

/-- What the last point pools: the sum of what all points add. -/
theorem pooled3 (c : Dev nD) (t : Fin cfg3.N) (h1 : t.val % 25 = 24) (g l : Fin 64) :
    (k3_pay2 (F := Ideal) (part3 V c t) (outsAt3 V c (t.val - 1) (Nat.lt_of_le_of_lt (Nat.sub_le _ _) t.isLt)) (ix2 g l) : EReal)
      = G3p (V c main_v2_1) (V c main_v4_0) (V c main_v4_1) (V c main_v6) (V c main_arg9) (V c main_v7) (V c main_v5) g l := by
  have hN : cfg3.N = 25 := N_3
  have ht : t.val = 24 := by have := t.isLt; omega
  rw [pay3s]
  have e : ((outsAt3 V c (t.val - 1) (Nat.lt_of_le_of_lt (Nat.sub_le _ _) t.isLt) (ix2 g l) : EReal) + part3 V c t (ix2 g l))
      = ∑ s : Fin 25, (part3 V c ⟨s.val, by have := s.isLt; omega⟩ (ix2 g l) : EReal) := by
    obtain ⟨n, hn⟩ := t
    subst ht
    rw [Fin.sum_univ_castSucc]
    exact congrArg (· + (part3 V c ⟨24, hn⟩ (ix2 g l) : EReal)) (acc3 V c (ix2 g l) 23 (by omega) (by omega))
  rw [e]
  unfold G3p
  calc _ = ∑ s : Fin 25, ∑ q : Fin 400, hotE g (idRow (V c main_v5) ⟨s.val * 400 + q.val, by have := s.isLt; have := q.isLt; omega⟩)
        * G3y (V c main_v2_1) (V c main_v4_0) (V c main_v4_1) (V c main_v6) (V c main_arg9) (V c main_v7)
            ⟨s.val * 400 + q.val, by have := s.isLt; have := q.isLt; omega⟩ l :=
        Finset.sum_congr rfl fun s _ => part3_eq V c _ g l
    _ = _ := Fin.sum_mul_add_congr fun s k hl => rfl

/-- The result after the run. -/
theorem final3 (c : Dev nD) : (dat3 V c).arrAt 7 cfg3.N
    = G3 (V c main_v2_1) (V c main_v4_0) (V c main_v4_1) (V c main_v6) (V c main_arg9) (V c main_v7) (V c main_v5) := by
  refine (dat3 V c).arrAt_eq_of_covers 7 _ (by decide +kernel) fun t hf y => ?_
  blk_simp
  rw [after3_7, last3 V c t ((flush3_7 t).mp hf)]
  have hp := fun g l => pooled3 V c t ((flush3_7 t).mp hf) g l
  generalize k3_pay2 (F := Ideal) (part3 V c t) (outsAt3 V c (t.val - 1) (Nat.lt_of_le_of_lt (Nat.sub_le _ _) t.isLt)) = o at hp
  idx_vars y
  rw [pay3f]
  simp only [hp]
  unfold G3
  blk_point [idx3 t]

end Cert.KernelIdeal.Gcn
-- ==== Proof.Chain.lean ====
module

public import proofs.«01_k».proof.Proof.Region0
public import proofs.«01_k».proof.Proof.Region1
public import proofs.«01_k».proof.Proof.Region2
public import proofs.«01_k».proof.Proof.Region3

/-!
The four kernels one after the other: what the result array holds at the end, written out from the launch arrays.
Each kernel finds the arrays the ones before it left; the host only reshapes the biases and the segment numbers.
-/

@[expose] public section

set_option maxRecDepth 16384

noncomputable section

namespace Cert.KernelIdeal.Gcn

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first bias as a row. -/
def bias1 (c : Dev nD) : FVec Ideal S1x256 .f32 := fun j => m ((c : Thread nD τ).loc main_arg4) (ix1 (j 1))
/-- The second bias as a row. -/
def bias2 (c : Dev nD) : FVec Ideal S1x256 .f32 := fun j => m ((c : Thread nD τ).loc main_arg6) (ix1 (j 1))
/-- The third bias as a row. -/
def bias3 (c : Dev nD) : FVec Ideal S1x128 .f32 := fun j => m ((c : Thread nD τ).loc main_arg8) (ix1 (j 1))
/-- The last bias as a row. -/
def bias4 (c : Dev nD) : FVec Ideal S1x64 .f32 := fun j => m ((c : Thread nD τ).loc main_arg10) (ix1 (j 1))
/-- The segment numbers in 25 slabs of 400. -/
def segs3 (c : Dev nD) : IVec S25x1x400 32 := fun j => m ((c : Thread nD τ).loc main_arg2)
  (ix1 ⟨(j 0).val * 400 + (j 2).val, by have h0 : (j 0).val < 25 := (j 0).isLt; have h2 : (j 2).val < 400 := (j 2).isLt; omega⟩)

/-- The projected features. -/
def feat1 (c : Dev nD) : FVec Ideal S10000x256 .bf16 :=
  G0 (m ((c : Thread nD τ).loc main_arg0)) (m ((c : Thread nD τ).loc main_arg3))
/-- The second layer's features. -/
def feat2 (c : Dev nD) : FVec Ideal S10000x256 .bf16 :=
  G1 (m ((c : Thread nD τ).loc main_arg1)) (feat1 m c) (bias1 m c) (m ((c : Thread nD τ).loc main_arg5))
/-- Their column sums. -/
def sums2 (c : Dev nD) : FVec Ideal S1x256 .f32 :=
  G1s (m ((c : Thread nD τ).loc main_arg1)) (feat1 m c) (bias1 m c) (m ((c : Thread nD τ).loc main_arg5))
/-- The codes of the adjacency matrix. -/
def adjCodes (c : Dev nD) : IVec S25x400x10000 8 := G1c (m ((c : Thread nD τ).loc main_arg1))
/-- The third layer's features. -/
def feat3 (c : Dev nD) : FVec Ideal S10000x128 .bf16 :=
  G2 (adjCodes m c) (feat2 m c) (sums2 m c) (bias2 m c) (m ((c : Thread nD τ).loc main_arg7))
/-- Their column sums. -/
def sums3 (c : Dev nD) : FVec Ideal S1x128 .f32 :=
  G2s (adjCodes m c) (feat2 m c) (sums2 m c) (bias2 m c) (m ((c : Thread nD τ).loc main_arg7))
/-- The result. -/
def result (c : Dev nD) : FVec Ideal S64x64 .f32 :=
  G3 (adjCodes m c) (feat3 m c) (sums3 m c) (bias3 m c) (m ((c : Thread nD τ).loc main_arg9)) (bias4 m c) (segs3 m c)

/-! What each region finds. -/

/-- Layer one finds the projected features. -/
theorem at1_feat (c : Dev nD) : V2 m ρ c main_v0 = feat1 m c :=
  (W2_of m ρ c main_v0 (by decide)).trans ((W1_arr m ρ c 2).trans (final0 (V0 m ρ) c))

/-- Layer one finds the first bias as a row. -/
theorem at1_bias (c : Dev nD) : V2 m ρ c main_v1 = bias1 m c := by
  have h : W2 m ρ c (Proc.devRef .tc main_v1)
      = shapeCast S1x256 (W1 m ρ c (Proc.devRef .tc main_arg4)) shapeCasts_S256_S1x256 := by
    after_results; try rfl
  refine h.trans ?_
  rw [W1_args m ρ c main_arg4 (by decide)]
  funext j
  idx_vars j
  pointwise [bias1]

/-- Layer one finds every argument as it was. -/
theorem arg_at1 (c : Dev nD) (a : Ref sig .tc) (ha : a ∈ argRefs) : V2 m ρ c a = m ((c : Thread nD τ).loc a) :=
  W2_args m ρ c a ha

/-- Layer one leaves the second layer's features. -/
theorem left1_feat (c : Dev nD) : V3 m ρ c main_v2_0 = feat2 m c := by
  refine (W3_arr m ρ c 4).trans ((final1 (V2 m ρ) c).trans ?_)
  rw [at1_feat, at1_bias, arg_at1 m ρ c main_arg1 (by decide), arg_at1 m ρ c main_arg5 (by decide)]
  rfl

/-- Layer one leaves the codes. -/
theorem left1_codes (c : Dev nD) : V3 m ρ c main_v2_1 = adjCodes m c := by
  refine (W3_arr m ρ c 5).trans ((final1c (V2 m ρ) c).trans ?_)
  rw [arg_at1 m ρ c main_arg1 (by decide)]
  rfl

/-- Layer one leaves the column sums. -/
theorem left1_sums (c : Dev nD) : V3 m ρ c main_v2_2 = sums2 m c := by
  refine (W3_arr m ρ c 6).trans ((final1s (V2 m ρ) c).trans ?_)
  rw [at1_feat, at1_bias, arg_at1 m ρ c main_arg1 (by decide), arg_at1 m ρ c main_arg5 (by decide)]
  rfl

/-- Layer two finds the second layer's features. -/
theorem at2_feat (c : Dev nD) : V4 m ρ c main_v2_0 = feat2 m c :=
  (W4_of m ρ c main_v2_0 (by decide)).trans (left1_feat m ρ c)

/-- Layer two finds the codes. -/
theorem at2_codes (c : Dev nD) : V4 m ρ c main_v2_1 = adjCodes m c :=
  (W4_of m ρ c main_v2_1 (by decide)).trans (left1_codes m ρ c)

/-- Layer two finds the column sums. -/
theorem at2_sums (c : Dev nD) : V4 m ρ c main_v2_2 = sums2 m c :=
  (W4_of m ρ c main_v2_2 (by decide)).trans (left1_sums m ρ c)

/-- Layer two finds the second bias as a row. -/
theorem at2_bias (c : Dev nD) : V4 m ρ c main_v3 = bias2 m c := by
  have h : W4 m ρ c (Proc.devRef .tc main_v3)
      = shapeCast S1x256 (W3 m ρ c (Proc.devRef .tc main_arg6)) shapeCasts_S256_S1x256 := by
    after_results; try rfl
  refine h.trans ?_
  rw [W3_args m ρ c main_arg6 (by decide)]
  funext j
  idx_vars j
  pointwise [bias2]

/-- Layer two leaves the third layer's features. -/
theorem left2_feat (c : Dev nD) : V5 m ρ c main_v4_0 = feat3 m c := by
  refine (W5_arr m ρ c 5).trans ((final2 (V4 m ρ) c).trans ?_)
  rw [at2_feat, at2_codes, at2_sums, at2_bias, show V4 m ρ c main_arg7 = _ from W4_args m ρ c main_arg7 (by decide)]
  rfl

/-- Layer two leaves their column sums. -/
theorem left2_sums (c : Dev nD) : V5 m ρ c main_v4_1 = sums3 m c := by
  refine (W5_arr m ρ c 6).trans ((final2s (V4 m ρ) c).trans ?_)
  rw [at2_feat, at2_codes, at2_sums, at2_bias, show V4 m ρ c main_arg7 = _ from W4_args m ρ c main_arg7 (by decide)]
  rfl

/-- The last call finds the third layer's features. -/
theorem at3_feat (c : Dev nD) : V6 m ρ c main_v4_0 = feat3 m c :=
  (W6_of m ρ c main_v4_0 (by decide)).trans (left2_feat m ρ c)

/-- The last call finds their column sums. -/
theorem at3_sums (c : Dev nD) : V6 m ρ c main_v4_1 = sums3 m c :=
  (W6_of m ρ c main_v4_1 (by decide)).trans (left2_sums m ρ c)

/-- The last call finds the codes. -/
theorem at3_codes (c : Dev nD) : V6 m ρ c main_v2_1 = adjCodes m c :=
  (W6_of m ρ c main_v2_1 (by decide)).trans ((W5_of m ρ c main_v2_1 (by decide)).trans (at2_codes m ρ c))

/-- The last call finds the segment numbers in slabs. -/
theorem at3_segs (c : Dev nD) : V6 m ρ c main_v5 = segs3 m c := by
  have h : W6 m ρ c (Proc.devRef .tc main_v5)
      = shapeCast S25x1x400 (W5 m ρ c (Proc.devRef .tc main_arg2)) shapeCasts_S10000_S25x1x400 := by
    after_results; try rfl
  refine h.trans ?_
  rw [W5_args m ρ c main_arg2 (by decide)]
  funext j
  idx_vars j
  pointwise [segs3]

/-- The last call finds the third bias as a row. -/
theorem at3_bias (c : Dev nD) : V6 m ρ c main_v6 = bias3 m c := by
  have h : W6 m ρ c (Proc.devRef .tc main_v6)
      = shapeCast S1x128 (W5 m ρ c (Proc.devRef .tc main_arg8)) shapeCasts_S128_S1x128 := by
    after_results; try rfl
  refine h.trans ?_
  rw [W5_args m ρ c main_arg8 (by decide)]
  funext j
  idx_vars j
  pointwise [bias3]

/-- The last call finds the last bias as a row. -/
theorem at3_bias' (c : Dev nD) : V6 m ρ c main_v7 = bias4 m c := by
  have h : W6 m ρ c (Proc.devRef .tc main_v7)
      = shapeCast S1x64 (W5 m ρ c (Proc.devRef .tc main_arg10)) shapeCasts_S64_S1x64 := by
    after_results; try rfl
  refine h.trans ?_
  rw [W5_args m ρ c main_arg10 (by decide)]
  funext j
  idx_vars j
  pointwise [bias4]

/-- The result array at the end, from the launch arrays. -/
theorem result_eq (c : Dev nD) : W7 m ρ c (Proc.devRef .tc main_v8) = result m c := by
  refine (W7_arr m ρ c 7).trans ((final3 (V6 m ρ) c).trans ?_)
  rw [at3_feat, at3_codes, at3_sums, at3_bias, at3_bias', at3_segs,
    show V6 m ρ c main_arg9 = _ from W6_args m ρ c main_arg9 (by decide)]
  rfl

end Cert.KernelIdeal.Gcn
-- ==== Proof.Spec.lean ====
module

public import Idealize.ShloMosaic.Lib.IdealHost
public import Idealize.ShloMosaic.PureOps.Ideal.Laws
public import Mathlib.Data.Matrix.Mul

/-!
The mathematics of the network over the reals: the quantiser, one graph convolution in the reference's form
(aggregate, then project) and in the kernel's (project, then aggregate over integer codes), the pooling by segment and
the log-softmax of a row. The last section says how finite extended reals compute like reals.
-/

@[expose] public section

noncomputable section

namespace Cert.Gcn

open Idealize.ShloMosaic
open Real (toEReal)

/-- A real matrix. -/
abbrev Mat (n m : ℕ) := Matrix (Fin n) (Fin m) ℝ

/-- The quantiser: the entry's distance from one half in steps of 1/254, rounded half to even, clipped to the range
    of a signed byte. -/
def code (r : ℝ) : ℝ := min 127 (max (-128) (Ideal.roundHalfEven ((r - 1 / 2) * 254) : ℝ))

/-- All the codes of a matrix. -/
def codes {n m : ℕ} (A : Mat n m) : Mat n m := fun i j => code (A i j)

/-- The matrix the codes stand for: `code / 254 + 1/2`. -/
def deq {n m : ℕ} (A : Mat n m) : Mat n m := fun i j => code (A i j) / 254 + 1 / 2

/-- `max (M + b) 0`, the bias `b` added to every row. -/
def act {n m : ℕ} (M : Mat n m) (b : Fin m → ℝ) : Mat n m := fun i j => max (M i j + b j) 0

/-- The sums of the columns. -/
def colsum {n m : ℕ} (M : Mat n m) (j : Fin m) : ℝ := ∑ i, M i j

/-- The kernel's aggregation over codes: the integer product scaled by 1/254 plus half the column sums. -/
def qagg {n p m : ℕ} (C : Mat n p) (H : Mat p m) : Mat n m := fun i j => (C * H) i j * 254⁻¹ + 1 / 2 * colsum H j

/-- Aggregating with the dequantised matrix is the kernel's aggregation over its codes. -/
theorem deq_mul {n p m : ℕ} (A : Mat n p) (H : Mat p m) : deq A * H = qagg (codes A) H := by
  ext i j
  simp only [qagg, colsum, Matrix.mul_apply, deq, codes, Finset.sum_mul, Finset.mul_sum, ← Finset.sum_add_distrib]
  exact Finset.sum_congr rfl fun k _ => by ring

section Net
variable {n f h1 h2 h3 o : ℕ} (A : Mat n n) (X : Mat n f) (W1 : Mat f h1) (b1 : Fin h1 → ℝ) (W2 : Mat h1 h2)
  (b2 : Fin h2 → ℝ) (W3 : Mat h2 h3) (b3 : Fin h3 → ℝ) (W4 : Mat h3 o) (b4 : Fin o → ℝ)

/-- Layer 1 of the reference. -/
def ref1 : Mat n h1 := act (A * X * W1) b1
/-- Layer 2 of the reference. -/
def ref2 : Mat n h2 := act (deq A * ref1 A X W1 b1 * W2) b2
/-- Layer 3 of the reference. -/
def ref3 : Mat n h3 := act (deq A * ref2 A X W1 b1 W2 b2 * W3) b3
/-- The node outputs of the reference. -/
def refY : Mat n o := fun i j => (ref3 A X W1 b1 W2 b2 W3 b3 * W4) i j + b4 j

/-- The features the first kernel hands on. -/
def ker1 : Mat n h1 := X * W1
/-- The features the second kernel hands on. -/
def ker2 : Mat n h2 := act (A * ker1 X W1) b1 * W2
/-- The features the third kernel hands on. -/
def ker3 : Mat n h3 := act (qagg (codes A) (ker2 A X W1 b1 W2)) b2 * W3
/-- The node outputs of the fourth kernel. -/
def kerY : Mat n o := fun i j => (act (qagg (codes A) (ker3 A X W1 b1 W2 b2 W3)) b3 * W4) i j + b4 j

/-- The two orders of computation give the same node outputs. -/
theorem kerY_eq_refY : kerY A X W1 b1 W2 b2 W3 b3 W4 b4 = refY A X W1 b1 W2 b2 W3 b3 W4 b4 := by
  unfold kerY refY ref3 ref2 ref1 ker3 ker2 ker1
  simp only [← deq_mul, Matrix.mul_assoc]
  rfl

end Net

/-- The rows of `Y` added up by segment: row `g` is the sum of the rows whose index word, read signed, is `g`. -/
def pool {n g o : ℕ} (ids : Fin n → BitVec 32) (Y : Mat n o) : Mat g o :=
  fun s j => ∑ i, (if (ids i).toInt = (s.val : ℤ) then Y i j else 0)

/-- The largest entry of a row. -/
def rowmax {g o : ℕ} [NeZero o] (M : Mat g o) (s : Fin g) : ℝ := Finset.univ.sup' Finset.univ_nonempty (M s)

/-- The log-softmax of every row, shifted by the row's largest entry. -/
def lsm {g o : ℕ} [NeZero o] (M : Mat g o) : Mat g o :=
  fun s j => M s j - rowmax M s - Real.log (∑ k, Real.exp (M s k - rowmax M s))

/-! ## Finite extended reals compute like reals -/

/-- A finite sum of reals is the same sum among the extended reals. -/
theorem coe_sum {ι : Type} (s : Finset ι) (f : ι → ℝ) : (∑ i ∈ s, toEReal (f i)) = toEReal (∑ i ∈ s, f i) := by
  induction s using Finset.cons_induction with
  | empty => simp
  | cons a s ha ih => rw [Finset.sum_cons, Finset.sum_cons, ih, EReal.coe_add]

/-- A sum of products of reals. -/
theorem coe_dot {n p m : ℕ} (A : Mat n p) (B : Mat p m) (i : Fin n) (j : Fin m) :
    (∑ k, toEReal (A i k) * toEReal (B k j)) = toEReal ((A * B) i j) := by
  rw [Matrix.mul_apply, ← coe_sum]
  exact Finset.sum_congr rfl fun k _ => (EReal.coe_mul _ _).symm

/-- The larger of two reals, among the extended reals. -/
theorem coe_max (a b : ℝ) : max (toEReal a) (toEReal b) = toEReal (max a b) := (EReal.coe_strictMono.monotone.map_max).symm

/-- The smaller of two reals, among the extended reals. -/
theorem coe_min (a b : ℝ) : min (toEReal a) (toEReal b) = toEReal (min a b) := (EReal.coe_strictMono.monotone.map_min).symm

/-- Shifting and clamping at zero, among the extended reals. -/
theorem coe_act {n m : ℕ} (M : Mat n m) (b : Fin m → ℝ) (i : Fin n) (j : Fin m) :
    max (toEReal (M i j) + toEReal (b j)) 0 = toEReal (act M b i j) := by
  rw [← EReal.coe_add, ← EReal.coe_zero, coe_max]; rfl

/-- The aggregation from the codes and the column sums, among the extended reals. -/
theorem coe_qagg {n p m : ℕ} (C : Mat n p) (H : Mat p m) (i : Fin n) (j : Fin m) :
    (∑ k, toEReal (C i k) * toEReal (H k j)) * toEReal 254⁻¹ + toEReal (1 / 2) * toEReal (colsum H j) = toEReal (qagg C H i j) := by
  rw [coe_dot, ← EReal.coe_mul, ← EReal.coe_mul, ← EReal.coe_add]; rfl

/-- The largest of finitely many reals, started at `-∞`. -/
theorem coe_fold_max {o : ℕ} [NeZero o] (f : Fin o → ℝ) :
    (Finset.univ.fold max ⊥ fun k => toEReal (f k)) = toEReal (Finset.univ.sup' Finset.univ_nonempty f) := by
  have h : (Finset.univ.fold max ⊥ fun k => toEReal (f k)) = Finset.univ.sup fun k => toEReal (f k) := rfl
  rw [h]
  apply le_antisymm
  · refine Finset.sup_le fun k hk => ?_
    exact EReal.coe_le_coe_iff.2 (Finset.le_sup' f hk)
  · obtain ⟨k, hk, e⟩ := Finset.exists_mem_eq_sup' (Finset.univ_nonempty (α := Fin o)) f
    rw [e]
    exact Finset.le_sup (f := fun k => toEReal (f k)) hk

/-- The reference's bracketing of the log-softmax, over a finite row. -/
theorem coe_lsm {g o : ℕ} [NeZero o] (M : Mat g o) (s : Fin g) (j : Fin o) :
    toEReal (M s j) - toEReal (rowmax M s) - Ideal.log (∑ k, Ideal.exp (toEReal (M s k) - toEReal (rowmax M s))) = toEReal (lsm M s j) := by
  have hs : (∑ k, Ideal.exp (toEReal (M s k) - toEReal (rowmax M s))) = toEReal (∑ k, Real.exp (M s k - rowmax M s)) := by
    rw [← coe_sum]
    exact Finset.sum_congr rfl fun k _ => by rw [← EReal.coe_sub]; rfl
  have hp : ¬ (∑ k, Real.exp (M s k - rowmax M s)) ≤ 0 := by
    rw [not_le]
    exact Finset.sum_pos (fun k _ => Real.exp_pos _) Finset.univ_nonempty
  rw [hs, Ideal.log_coe, if_neg hp, ← EReal.coe_sub, ← EReal.coe_sub]
  rfl

/-- The kernel's bracketing of the log-softmax, over a finite row. -/
theorem coe_lsm' {g o : ℕ} [NeZero o] (M : Mat g o) (s : Fin g) (j : Fin o) :
    toEReal (M s j) - (Ideal.log (∑ k, Ideal.exp (toEReal (M s k) - toEReal (rowmax M s))) + toEReal (rowmax M s)) = toEReal (lsm M s j) := by
  have hs : (∑ k, Ideal.exp (toEReal (M s k) - toEReal (rowmax M s))) = toEReal (∑ k, Real.exp (M s k - rowmax M s)) := by
    rw [← coe_sum]
    exact Finset.sum_congr rfl fun k _ => by rw [← EReal.coe_sub]; rfl
  have hp : ¬ (∑ k, Real.exp (M s k - rowmax M s)) ≤ 0 := by
    rw [not_le]
    exact Finset.sum_pos (fun k _ => Real.exp_pos _) Finset.univ_nonempty
  rw [hs, Ideal.log_coe, if_neg hp, ← EReal.coe_add, ← EReal.coe_sub]
  exact congrArg toEReal (by simp only [lsm]; ring)

/-! ## The constants -/

/-- The word for a half. -/
theorem half_f32 : Ideal.ofBits .f32 0x3F000000#32 = toEReal (1 / 2) := by
  simp [Ideal.ofBits, Ideal.ieee, -EReal.coe_mul]; norm_num

/-- The word for 254. -/
theorem c254_f32 : Ideal.ofBits .f32 0x437E0000#32 = toEReal 254 := by
  simp [Ideal.ofBits, Ideal.ieee, -EReal.coe_mul]; norm_num

/-- The word for 127. -/
theorem c127_f32 : Ideal.ofBits .f32 0x42FE0000#32 = toEReal 127 := by
  simp [Ideal.ofBits, Ideal.ieee, -EReal.coe_mul]; norm_num

/-- The word for -128. -/
theorem cm128_f32 : Ideal.ofBits .f32 0xC3000000#32 = toEReal (-128) := by
  simp [Ideal.ofBits, Ideal.ieee, -EReal.coe_mul, -EReal.coe_neg]; norm_num

/-- The word for minus infinity. -/
theorem bot_f32 : Ideal.ofBits .f32 0xFF800000#32 = ⊥ := by
  simp [Ideal.ofBits, Ideal.ieee]

/-- The word for plus infinity. -/
theorem top_f32 : Ideal.ofBits .f32 0x7F800000#32 = ⊤ := by
  simp [Ideal.ofBits, Ideal.ieee]

/-- The kernel's conversion to a signed byte saturates, so its code is the reference's clipped one. -/
theorem fptosi_code (r : ℝ) :
    ((Ideal.fptosi 8 (Ideal.liftRound Ideal.roundHalfEven ((toEReal r - toEReal (1 / 2)) * toEReal 254))).toInt : ℝ) = code r := by
  rw [← EReal.coe_sub, ← EReal.coe_mul, Ideal.liftRound_coe]
  unfold code
  generalize Ideal.roundHalfEven ((r - 1 / 2) * 254) = z
  have hz : Ideal.fptosi 8 ((z : ℝ) : EReal) = BitVec.ofInt 8 (max (-128) (min 127 z)) := by
    rw [Ideal.fptosi, Ideal.toIntClamped_coe]
    simp
  rw [hz, BitVec.toInt_ofInt]
  have h1 : (-128 : ℤ) ≤ max (-128) (min 127 z) := le_max_left _ _
  have h2 : max (-128) (min 127 z) ≤ 127 := max_le (by norm_num) (min_le_left _ _)
  have h3 : (max (-128) (min 127 z)).bmod (2 ^ 8) = min 127 (max (-128) z) := by
    rw [Int.bmod_eq_of_le (by omega) (by omega)]
    omega
  rw [h3]
  push_cast
  rfl

end Cert.Gcn
-- ==== Proof.Lift.lean ====
module

public import proofs.«01_k».proof.Proof.Chain
public import proofs.«01_k».proof.Proof.Spec

/-!
The kernel's result lifted to the reals: with real arguments every array the four regions leave is real, and the result is
the log-softmax of the pooled scores as the kernel computes them, from the codes and the column sums.
-/

@[expose] public section

set_option maxRecDepth 16384

noncomputable section

namespace Cert.KernelIdeal.Gcn

open Cert.KernelIdeal Cert.KernelIdeal.Gen Idealize.ShloMosaic Idealize.ShloMosaic.TcCoe Idealize.SL.Sem
open Cert.Gcn
open Real (toEReal)

/-- The one-hot entry: one where the word, read signed, is the segment, zero elsewhere. -/
theorem hotE_eq (g : Fin 64) (x : BitVec 32) : hotE g x = if x.toInt = (g.val : ℤ) then 1 else 0 := by
  have hg : (BitVec.ofNat 32 g.val).toInt = (g.val : ℤ) := by
    have := g.isLt
    rw [BitVec.toInt_ofNat', Int.bmod_eq_of_le (by omega) (by omega)]
  have hx : BitVec.ofNat 32 g.val = x ↔ x.toInt = (g.val : ℤ) := by
    rw [← hg]
    exact ⟨fun h => by rw [h], fun h => (BitVec.eq_of_toInt_eq h).symm⟩
  unfold hotE
  by_cases h : BitVec.ofNat 32 g.val = x
  · rw [if_pos (hx.1 h), IntOp.cmpi_eq.2 h]
    show (((BitVec.setWidth 32 1#1).toInt : ℝ) : EReal) = 1
    simp
  · rw [if_neg (fun e => h (hx.2 e)), ValueIdx.eq_zero_of_ne_one (fun e => h (IntOp.cmpi_eq.1 e))]
    show (((BitVec.setWidth 32 0#1).toInt : ℝ) : EReal) = 0
    simp

/-- The code of a real, read back as a number. -/
theorem code_real (r : ℝ) : (FloatOps.sitofp (F := Ideal) .bf16 (codeE (toEReal r)) : EReal) = toEReal (code r) := by
  show (((codeE (toEReal r)).toInt : ℝ) : EReal) = _
  unfold codeE
  rw [half_f32, c254_f32]
  exact congrArg toEReal (fptosi_code r)

/-- One entry of a quantised layer before its projection is real. -/
theorem act_real {d : ℕ} (C : Mat 10000 10000) (H : Mat 10000 d) (b : Fin d → ℝ) (i : Fin 10000) (a : Fin 10000 → BitVec 8)
    (h : Fin 10000 → Fin d → EReal) (s b' : Fin d → EReal) (ha : ∀ p, (FloatOps.sitofp (F := Ideal) .bf16 (a p) : EReal) = toEReal (C i p))
    (hh : ∀ p k, h p k = toEReal (H p k)) (hs : ∀ k, s k = toEReal (colsum H k)) (hb : ∀ k, b' k = toEReal (b k)) (k : Fin d) :
    actE a h s b' k = toEReal (act (qagg C H) b i k) := by
  have hn : (Named.named (F := Ideal) (φ := .f32) κ "s" 0x3B810204#32 : EReal) = toEReal 254⁻¹ := rfl
  unfold actE
  rw [hn, half_f32, hs, hb]
  simp only [ha, hh]
  rw [coe_qagg, coe_act]

/-! Each region's arrays over real inputs. -/

/-- The projected features. -/
theorem G0_real (x : FVec Ideal S10000x256 .f32) (w : FVec Ideal S256x256 .f32) (X : Mat 10000 256) (W : Mat 256 256)
    (hx : ∀ i k, (x (ix2 i k) : EReal) = toEReal (X i k)) (hw : ∀ i k, (w (ix2 i k) : EReal) = toEReal (W i k)) (i : Fin 10000) (l : Fin 256) :
    (G0 x w (ix2 i l) : EReal) = toEReal (ker1 X W i l) := by
  refine (Finset.sum_congr rfl fun k _ => ?_).trans (coe_dot X W i l)
  exact congrArg₂ (· * ·) (hx i k) (hw k l)

/-- The second layer's features. -/
theorem G1_real (a : FVec Ideal S10000x10000 .f32) (h : FVec Ideal S10000x256 .bf16) (b : FVec Ideal S1x256 .f32) (w : FVec Ideal S256x256 .f32)
    (A : Mat 10000 10000) (H : Mat 10000 256) (B : Fin 256 → ℝ) (W : Mat 256 256)
    (ha : ∀ i k, (a (ix2 i k) : EReal) = toEReal (A i k)) (hh : ∀ i k, (h (ix2 i k) : EReal) = toEReal (H i k))
    (hb : ∀ k, (b (ix2 0 k) : EReal) = toEReal (B k)) (hw : ∀ i k, (w (ix2 i k) : EReal) = toEReal (W i k)) (i : Fin 10000) (l : Fin 256) :
    (G1 a h b w (ix2 i l) : EReal) = toEReal ((act (A * H) B * W) i l) := by
  refine (Finset.sum_congr rfl fun k _ => ?_).trans (coe_dot (act (A * H) B) W i l)
  refine congrArg₂ (· * ·) ?_ (hw k l)
  refine Eq.trans ?_ (coe_act (A * H) B i k)
  refine congrArg (fun z : EReal => max z 0) (congrArg₂ (· + ·) ?_ (hb k))
  refine (Finset.sum_congr rfl fun p _ => ?_).trans (coe_dot A H i k)
  exact congrArg₂ (· * ·) (ha i p) (hh p k)

/-- The codes, row by row. -/
theorem G1c_real (a : FVec Ideal S10000x10000 .f32) (A : Mat 10000 10000) (ha : ∀ i k, (a (ix2 i k) : EReal) = toEReal (A i k)) (i p : Fin 10000) :
    (FloatOps.sitofp (F := Ideal) .bf16 (codeRow (G1c a) i p) : EReal) = toEReal (codes A i p) := by
  have e : codeRow (G1c a) i p = codeE (a (ix2 i p)) := by
    unfold codeRow G1c
    refine congrArg (fun r => codeE (a (ix2 r p))) (Fin.ext ?_)
    show i.val / 400 * 400 + i.val % 400 = i.val
    omega
  have e2 : codeE (a (ix2 i p)) = codeE (toEReal (A i p)) := congrArg codeE (ha i p)
  rw [e, e2]
  exact code_real _

/-- The third layer's features. -/
theorem G2_real (a : IVec S25x400x10000 8) (h : FVec Ideal S10000x256 .bf16) (s b : FVec Ideal S1x256 .f32) (w : FVec Ideal S256x128 .f32)
    (C : Mat 10000 10000) (H : Mat 10000 256) (B : Fin 256 → ℝ) (W : Mat 256 128)
    (ha : ∀ i p, (FloatOps.sitofp (F := Ideal) .bf16 (codeRow a i p) : EReal) = toEReal (C i p))
    (hh : ∀ i k, (h (ix2 i k) : EReal) = toEReal (H i k)) (hs : ∀ k, (s (ix2 0 k) : EReal) = toEReal (colsum H k))
    (hb : ∀ k, (b (ix2 0 k) : EReal) = toEReal (B k)) (hw : ∀ i k, (w (ix2 i k) : EReal) = toEReal (W i k)) (i : Fin 10000) (l : Fin 128) :
    (G2 a h s b w (ix2 i l) : EReal) = toEReal ((act (qagg C H) B * W) i l) := by
  refine (Finset.sum_congr rfl fun k _ => ?_).trans (coe_dot (act (qagg C H) B) W i l)
  exact congrArg₂ (· * ·) (act_real C H B i _ _ _ _ (ha i) hh hs hb k) (hw k l)

/-- The node scores. -/
theorem G3y_real (a : IVec S25x400x10000 8) (h : FVec Ideal S10000x128 .bf16) (s b : FVec Ideal S1x128 .f32) (w : FVec Ideal S128x64 .f32)
    (d : FVec Ideal S1x64 .f32) (C : Mat 10000 10000) (H : Mat 10000 128) (B : Fin 128 → ℝ) (W : Mat 128 64) (D : Fin 64 → ℝ)
    (ha : ∀ i p, (FloatOps.sitofp (F := Ideal) .bf16 (codeRow a i p) : EReal) = toEReal (C i p))
    (hh : ∀ i k, (h (ix2 i k) : EReal) = toEReal (H i k)) (hs : ∀ k, (s (ix2 0 k) : EReal) = toEReal (colsum H k))
    (hb : ∀ k, (b (ix2 0 k) : EReal) = toEReal (B k)) (hw : ∀ i k, (w (ix2 i k) : EReal) = toEReal (W i k))
    (hd : ∀ k, (d (ix2 0 k) : EReal) = toEReal (D k)) (i : Fin 10000) (l : Fin 64) :
    G3y a h s b w d i l = toEReal ((act (qagg C H) B * W) i l + D l) := by
  rw [EReal.coe_add]
  refine congrArg₂ (· + ·) ?_ (hd l)
  refine (Finset.sum_congr rfl fun k _ => ?_).trans (coe_dot (act (qagg C H) B) W i l)
  exact congrArg₂ (· * ·) (act_real C H B i _ _ _ _ (ha i) hh hs hb k) (hw k l)

/-- The pooled scores: the one-hot product is the sum over the rows of the segment. -/
theorem G3p_real (a : IVec S25x400x10000 8) (h : FVec Ideal S10000x128 .bf16) (s b : FVec Ideal S1x128 .f32) (w : FVec Ideal S128x64 .f32)
    (d : FVec Ideal S1x64 .f32) (ids : IVec S25x1x400 32) (Y : Mat 10000 64) (word : Fin 10000 → BitVec 32)
    (hy : ∀ i l, G3y a h s b w d i l = toEReal (Y i l)) (hi : ∀ i, idRow ids i = word i) (g l : Fin 64) :
    G3p a h s b w d ids g l = toEReal (Cert.Gcn.pool word Y g l) := by
  unfold G3p Cert.Gcn.pool
  rw [← coe_sum]
  refine Finset.sum_congr rfl fun i _ => ?_
  rw [hy, hotE_eq, hi]
  split
  · rw [one_mul]
  · rw [zero_mul]; rfl

/-- The result: the log-softmax of the pooled scores. -/
theorem G3_real (a : IVec S25x400x10000 8) (h : FVec Ideal S10000x128 .bf16) (s b : FVec Ideal S1x128 .f32) (w : FVec Ideal S128x64 .f32)
    (d : FVec Ideal S1x64 .f32) (ids : IVec S25x1x400 32) (P : Mat 64 64)
    (hp : ∀ g l, G3p a h s b w d ids g l = toEReal (P g l)) (g l : Fin 64) :
    (G3 a h s b w d ids (ix2 g l) : EReal) = toEReal (lsm P g l) := by
  have e : G3p a h s b w d ids g = fun k => toEReal (P g k) := funext fun k => hp g k
  have t : topE (G3p a h s b w d ids g) = toEReal (rowmax P g) := by
    rw [e]
    unfold topE
    rw [bot_f32]
    exact coe_fold_max (P g)
  have r : (G3 a h s b w d ids (ix2 g l) : EReal) = G3p a h s b w d ids g l
      - (Ideal.log (∑ k : Fin 64, Ideal.exp (G3p a h s b w d ids g k - topE (G3p a h s b w d ids g))) + topE (G3p a h s b w d ids g)) := rfl
  rw [r, t]
  simp only [hp]
  exact coe_lsm' P g l

section lift

variable (m : (ℓ : Loc nD τ sig) → Buf (Elt Ideal) ℓ) (c : Dev nD)
  (A : Mat 10000 10000) (X : Mat 10000 256) (W1 : Mat 256 256) (b1 : Fin 256 → ℝ) (W2 : Mat 256 256) (b2 : Fin 256 → ℝ)
  (W3 : Mat 256 128) (b3 : Fin 128 → ℝ) (W4 : Mat 128 64) (b4 : Fin 64 → ℝ)

/-- The float arguments of a launch hold the real matrices given. -/
structure Holds : Prop where
  x : ∀ i k, (m ((c : Thread nD τ).loc main_arg0) : FVec Ideal S10000x256 .f32) (ix2 i k) = toEReal (X i k)
  a : ∀ i k, (m ((c : Thread nD τ).loc main_arg1) : FVec Ideal S10000x10000 .f32) (ix2 i k) = toEReal (A i k)
  w1 : ∀ i k, (m ((c : Thread nD τ).loc main_arg3) : FVec Ideal S256x256 .f32) (ix2 i k) = toEReal (W1 i k)
  b1 : ∀ k, (m ((c : Thread nD τ).loc main_arg4) : FVec Ideal S256 .f32) (ix1 k) = toEReal (b1 k)
  w2 : ∀ i k, (m ((c : Thread nD τ).loc main_arg5) : FVec Ideal S256x256 .f32) (ix2 i k) = toEReal (W2 i k)
  b2 : ∀ k, (m ((c : Thread nD τ).loc main_arg6) : FVec Ideal S256 .f32) (ix1 k) = toEReal (b2 k)
  w3 : ∀ i k, (m ((c : Thread nD τ).loc main_arg7) : FVec Ideal S256x128 .f32) (ix2 i k) = toEReal (W3 i k)
  b3 : ∀ k, (m ((c : Thread nD τ).loc main_arg8) : FVec Ideal S128 .f32) (ix1 k) = toEReal (b3 k)
  w4 : ∀ i k, (m ((c : Thread nD τ).loc main_arg9) : FVec Ideal S128x64 .f32) (ix2 i k) = toEReal (W4 i k)
  b4 : ∀ k, (m ((c : Thread nD τ).loc main_arg10) : FVec Ideal S64 .f32) (ix1 k) = toEReal (b4 k)

variable {m c A X W1 b1 W2 b2 W3 b3 W4 b4} (h : Holds m c A X W1 b1 W2 b2 W3 b3 W4 b4)

include h in
/-- The projected features of a launch. -/
theorem feat1_real (i : Fin 10000) (l : Fin 256) : (feat1 m c (ix2 i l) : EReal) = toEReal (ker1 X W1 i l) :=
  G0_real _ _ X W1 h.x h.w1 i l

include h in
/-- The second layer's features of a launch. -/
theorem feat2_real (i : Fin 10000) (l : Fin 256) : (feat2 m c (ix2 i l) : EReal) = toEReal (ker2 A X W1 b1 W2 i l) :=
  G1_real _ _ _ _ A (ker1 X W1) b1 W2 h.a (feat1_real h) (fun k => h.b1 k) h.w2 i l

include h in
/-- Their column sums. -/
theorem sums2_real (l : Fin 256) : (sums2 m c (ix2 0 l) : EReal) = toEReal (colsum (ker2 A X W1 b1 W2) l) :=
  (Finset.sum_congr (s₁ := Finset.univ) rfl fun i _ => feat2_real h i l).trans (coe_sum Finset.univ _)

include h in
/-- The third layer's features of a launch. -/
theorem feat3_real (i : Fin 10000) (l : Fin 128) : (feat3 m c (ix2 i l) : EReal) = toEReal (ker3 A X W1 b1 W2 b2 W3 i l) :=
  G2_real _ _ _ _ _ (codes A) (ker2 A X W1 b1 W2) b2 W3 (G1c_real _ A h.a) (feat2_real h) (sums2_real h) (fun k => h.b2 k) h.w3 i l

include h in
/-- Their column sums. -/
theorem sums3_real (l : Fin 128) : (sums3 m c (ix2 0 l) : EReal) = toEReal (colsum (ker3 A X W1 b1 W2 b2 W3) l) :=
  (Finset.sum_congr (s₁ := Finset.univ) rfl fun i _ => feat3_real h i l).trans (coe_sum Finset.univ _)

include h in
/-- The node scores of a launch. -/
theorem score_real (i : Fin 10000) (l : Fin 64) :
    G3y (adjCodes m c) (feat3 m c) (sums3 m c) (bias3 m c) (m ((c : Thread nD τ).loc main_arg9)) (bias4 m c) i l
      = toEReal (kerY A X W1 b1 W2 b2 W3 b3 W4 b4 i l) :=
  G3y_real _ _ _ _ _ _ (codes A) (ker3 A X W1 b1 W2 b2 W3) b3 W4 b4 (G1c_real _ A h.a) (feat3_real h) (sums3_real h)
    (fun k => h.b3 k) h.w4 (fun k => h.b4 k) i l

/-- The segment word of a node. -/
theorem word_eq (m : (ℓ : Loc nD τ sig) → Buf (Elt Ideal) ℓ) (c : Dev nD) (i : Fin 10000) :
    idRow (segs3 m c) i = (m ((c : Thread nD τ).loc main_arg2) : IVec S10000 32) (ix1 i) := by
  unfold idRow segs3
  refine congrArg (fun r => (m ((c : Thread nD τ).loc main_arg2) : IVec S10000 32) (ix1 r)) (Fin.ext ?_)
  show i.val / 400 * 400 + i.val % 400 = i.val
  omega

include h in
/-- The kernel's result over the reals: the log-softmax of its pooled scores. -/
theorem result_real (s l : Fin 64) : (result m c (ix2 s l) : EReal)
    = toEReal (lsm (Cert.Gcn.pool (fun i => (m ((c : Thread nD τ).loc main_arg2) : IVec S10000 32) (ix1 i))
        (kerY A X W1 b1 W2 b2 W3 b3 W4 b4)) s l) :=
  G3_real _ _ _ _ _ _ _ _ (G3p_real _ _ _ _ _ _ _ (kerY A X W1 b1 W2 b2 W3 b3 W4 b4) _ (score_real h) (word_eq m c)) s l

end lift

end Cert.KernelIdeal.Gcn
-- ==== Proof.Seg.lean ====
module

public import Idealize.ShloMosaic.Lib.Routing.OpsPair
public import Idealize.ShloMosaic.Lib.ValueIdx
public import Idealize.ShloMosaic.PureOps.Ideal.Laws

/-!
Adding the rows of a matrix into the rows named by one index word each: what the accumulating scatter leaves in one
element is the sum over the rows whose word, read signed, is that row. A word outside the range adds nowhere.
-/

@[expose] public section

noncomputable section

namespace Cert.Gcn

open Idealize.ShloMosaic Idealize.SL.Sem Idealize.ShloMosaic.Routing Idealize.ShloMosaic.ValueIdx

/-- Update `(i, b)` lands at `(r, c)` exactly when row `i`'s word, read signed, is `r` and the columns agree. -/
theorem row_lands {G C N w : ℕ} (d : ScatterDims (shape2 G C) (shape2 N 1) (shape2 N C)) (huw : d.updateWindowDims = [1])
    (hiw : d.insertedWindowDims = [0]) (hsd : d.scatterDimsToOperandDims = [0]) (hivd : d.indexVectorDim = 1)
    (idx : IVec (shape2 N 1) w) (i : Fin N) (b : Fin C) (r : Fin G) (c : Fin C) :
    d.resultIdx? (ix2 i b) idx = some (ix2 r c) ↔ (idx (ix2 i 0)).toInt = r.val ∧ b = c := by
  have hkept : d.sKept = [1] := by
    show (shape2 G C).kept d.insertedWindowDims = _
    rw [hiw]
    rfl
  have hw0 : d.window (ix2 i b) 0 = 0 := by
    unfold ScatterDims.window
    rw [dif_neg (by rw [hkept]; exact (by decide : (0 : Fin 2) ∉ ([1] : List (Fin 2))))]
  have get : ∀ (l : List (Fin 2)) (n : ℕ) (h : n < l.length) (m : Fin 2), l = [m] → n = 0 → l[n]'h = m := by
    intro l n h m hl hn
    subst hl
    subst hn
    rfl
  have hw1 : d.window (ix2 i b) 1 = b.val := by
    unfold ScatterDims.window
    rw [dif_pos (by rw [hkept]; exact (by decide : (1 : Fin 2) ∈ ([1] : List (Fin 2)))), get _ _ _ 1 huw (by rw [hkept]; rfl)]
  have hsi : ∀ k, d.siIdx (ix2 i b) k = ix2 i 0 := fun k => by
    have hk : d.siKept = [0] := by
      show (List.finRange 2).filter (fun x => decide (x.val ≠ d.indexVectorDim)) = _
      rw [hivd]
      rfl
    have hu : d.uScatter = [0] := by
      show (shape2 N C).kept d.updateWindowDims = _
      rw [huw]
      rfl
    funext a
    apply Fin.ext
    match a with
    | ⟨0, _⟩ =>
      unfold ScatterDims.siIdx
      rw [dif_neg (by rw [hivd]; exact (by decide : (0 : ℕ) ≠ 1))]
      unfold ScatterDims.siCoord
      simp only [Fin.val_cast]
      rw [get _ _ _ 0 hu (by rw [hk]; rfl)]
    | ⟨1, _⟩ =>
      have h1 := (d.siIdx (ix2 i b) k 1).isLt
      have h2 : (d.siIdx (ix2 i b) k 1).val < 1 := h1
      show (d.siIdx (ix2 i b) k 1).val = 0
      omega
  have hs0 : d.start (ix2 i b) idx 0 = (idx (ix2 i 0)).toInt := by
    unfold ScatterDims.start
    rw [dif_pos (by rw [hsd]; exact (by decide : (0 : Fin 2) ∈ ([0] : List (Fin 2)))), hsi]
  have hs1 : d.start (ix2 i b) idx 1 = 0 := by
    unfold ScatterDims.start
    rw [dif_neg (by rw [hsd]; exact (by decide : (1 : Fin 2) ∉ ([0] : List (Fin 2))))]
  rw [resultIdx?_ix2, hs0, hs1, hw0, hw1]
  constructor
  · rintro ⟨h, h'⟩
    exact ⟨by omega, Fin.ext (by omega)⟩
  · rintro ⟨h, rfl⟩
    exact ⟨by omega, by omega⟩

/-- The scatter at one element, from zero: the sum over the rows its words name. -/
theorem scatter_rows {G C N w : ℕ} (d : ScatterDims (shape2 G C) (shape2 N 1) (shape2 N C)) (huw : d.updateWindowDims = [1])
    (hiw : d.insertedWindowDims = [0]) (hsd : d.scatterDimsToOperandDims = [0]) (hivd : d.indexVectorDim = 1)
    (x : (shape2 G C).Idx → EReal) (idx : IVec (shape2 N 1) w) (u : (shape2 N C).Idx → EReal) (r : Fin G) (c : Fin C) :
    Ideal.hostScatterAdd d x idx u (ix2 r c)
      = x (ix2 r c) + ∑ i : Fin N, if (idx (ix2 i 0)).toInt = r.val then u (ix2 i c) else 0 := by
  unfold Ideal.hostScatterAdd
  congr 1
  rw [Finset.sum_filter]
  refine (sum_idx2 _).trans (Finset.sum_congr rfl fun i _ => ?_)
  refine (Finset.sum_congr rfl fun b _ => if_congr (row_lands d huw hiw hsd hivd idx i b r c) rfl rfl).trans ?_
  by_cases h : (idx (ix2 i 0)).toInt = r.val <;> simp [h]

end Cert.Gcn
-- ==== Proof.Ref.lean ====
module

public import proofs.«01_k».proof.Proof.Gen.ReferenceIdeal.Read
public import proofs.«01_k».proof.Proof.Spec
public import proofs.«01_k».proof.Proof.Seg
public import Idealize.ShloMosaic.Lib.Pointwise
public import Idealize.ShloMosaic.Lib.ValueIdx

/-!
The reference, read stage by stage and lifted to the reals.
-/

@[expose] public section

set_option maxRecDepth 16384

noncomputable section

namespace Cert.ReferenceIdeal.Gcn

open Cert.ReferenceIdeal Cert.ReferenceIdeal.Gen Cert.ReferenceIdeal.Read Idealize.ShloMosaic Idealize.ShloMosaic.TcCoe Idealize.SL.Sem
open Cert.Gcn
open Real (toEReal)

variable (x0 : FVec Ideal S10000x256 .f32) (x1 : FVec Ideal S10000x10000 .f32) (x2 : IVec S10000 32)
  (x3 : FVec Ideal S256x256 .f32) (x4 : FVec Ideal S256 .f32) (x5 : FVec Ideal S256x256 .f32) (x6 : FVec Ideal S256 .f32)
  (x7 : FVec Ideal S256x128 .f32) (x8 : FVec Ideal S128 .f32) (x9 : FVec Ideal S128x64 .f32) (x10 : FVec Ideal S64 .f32)

/-- The de-quantised adjacency entry: scaled, rounded, clipped, divided back, shifted back. -/
theorem read_deq (i p : Fin 10000) : (val_main_v9 (F := Ideal) x1 (ix2 i p) : EReal)
    = Ideal.div (min (Ideal.ofBits .f32 0x42FE0000#32) (max (Ideal.ofBits .f32 0xC3000000#32)
        (Ideal.liftRound Ideal.roundHalfEven ((x1 (ix2 i p) - Ideal.ofBits .f32 0x3F000000#32) * Ideal.ofBits .f32 0x437E0000#32))))
        (Ideal.ofBits .f32 0x437E0000#32) + Ideal.ofBits .f32 0x3F000000#32 := by
  pointwise [val_main_v9, val_main_v8, val_main_v7, val_main_v6, val_main_v5, val_main_v4, val_main_v3, val_main_v2, val_main_v1,
    val_main_v0, val_main_cst, val_main_cst_0, val_main_cst_1, val_main_cst_2, val_main_cst_3, val_main_cst_4, val_main_call1_v0,
    val_main_call1_v1, val_main_call1_v2, val_main_call1_v3, val_main_call1_v4]
  all_goals rfl

/-- The first layer: aggregate, project, shift, clamp at zero. -/
theorem read_l1 (i : Fin 10000) (l : Fin 256) : (val_main_v15 (F := Ideal) x0 x1 x3 x4 (ix2 i l) : EReal)
    = max ((∑ k : Fin 256, (∑ p : Fin 10000, x1 (ix2 i p) * x0 (ix2 p k)) * x3 (ix2 k l)) + x4 (ix1 l)) 0 := by
  pointwise [val_main_v15, val_main_v14, val_main_v13, val_main_v12, val_main_v11, val_main_v10, val_main_call2_v0, val_main_call2_cst]

/-- The second layer, over the de-quantised adjacency. -/
theorem read_l2 (i : Fin 10000) (l : Fin 256) : (val_main_v21 (F := Ideal) x0 x1 x3 x4 x5 x6 (ix2 i l) : EReal)
    = max ((∑ k : Fin 256, (∑ p : Fin 10000, val_main_v9 (F := Ideal) x1 (ix2 i p) * val_main_v15 (F := Ideal) x0 x1 x3 x4 (ix2 p k))
        * x5 (ix2 k l)) + x6 (ix1 l)) 0 := by
  pointwise [val_main_v21, val_main_v20, val_main_v19, val_main_v18, val_main_v17, val_main_v16, val_main_call3_v0, val_main_call3_cst]

/-- The third layer, over the de-quantised adjacency. -/
theorem read_l3 (i : Fin 10000) (l : Fin 128) : (val_main_v27 (F := Ideal) x0 x1 x3 x4 x5 x6 x7 x8 (ix2 i l) : EReal)
    = max ((∑ k : Fin 256, (∑ p : Fin 10000, val_main_v9 (F := Ideal) x1 (ix2 i p) * val_main_v21 (F := Ideal) x0 x1 x3 x4 x5 x6 (ix2 p k))
        * x7 (ix2 k l)) + x8 (ix1 l)) 0 := by
  pointwise [val_main_v27, val_main_v26, val_main_v25, val_main_v24, val_main_v23, val_main_v22, val_main_call4_v0, val_main_call4_cst]

/-- The node scores. -/
theorem read_y (i : Fin 10000) (l : Fin 64) : (val_main_v31 (F := Ideal) x0 x1 x3 x4 x5 x6 x7 x8 x9 x10 (ix2 i l) : EReal)
    = (∑ k : Fin 128, val_main_v27 (F := Ideal) x0 x1 x3 x4 x5 x6 x7 x8 (ix2 i k) * x9 (ix2 k l)) + x10 (ix1 l) := by
  pointwise [val_main_v31, val_main_v30, val_main_v29, val_main_v28]

/-- The log-softmax of one row of the pooled values. -/
theorem read_out (s l : Fin 64) : (val_main_v35 (F := Ideal) x0 x1 x2 x3 x4 x5 x6 x7 x8 x9 x10 (ix2 s l) : EReal)
    = (val_main_v34 (F := Ideal) x0 x1 x2 x3 x4 x5 x6 x7 x8 x9 x10 (ix2 s l)
        - max (Ideal.ofBits .f32 0xFF800000#32) (Finset.univ.fold max (Ideal.ofBits .f32 0xFF800000#32)
            (fun k : Fin 64 => val_main_v34 (F := Ideal) x0 x1 x2 x3 x4 x5 x6 x7 x8 x9 x10 (ix2 s k))))
      - Ideal.log (∑ k : Fin 64, Ideal.exp (val_main_v34 (F := Ideal) x0 x1 x2 x3 x4 x5 x6 x7 x8 x9 x10 (ix2 s k)
        - max (Ideal.ofBits .f32 0xFF800000#32) (Finset.univ.fold max (Ideal.ofBits .f32 0xFF800000#32)
            (fun k : Fin 64 => val_main_v34 (F := Ideal) x0 x1 x2 x3 x4 x5 x6 x7 x8 x9 x10 (ix2 s k))))) := by
  pointwise [val_main_v35, val_main_call5_v0, val_main_call5_v1, val_main_call5_v2, val_main_call5_v3, val_main_call5_v4, val_main_call5_v5,
    val_main_call5_v6, val_main_call5_v7, val_main_call5_v8, val_main_call5_v9, val_main_call5_v10, val_main_call5_cst, val_main_call5_cst_0, val_main_call5_cst_1]

/-- The word that names row `i`'s segment. -/
theorem read_word (i : Fin 10000) : val_main_v33 (F := Ideal) x2 (ix2 i 0) = x2 (ix1 i) := by
  pointwise [val_main_v33]

/-- The pooling starts from zero. -/
theorem read_zero (s l : Fin 64) : (val_main_v32 (F := Ideal) (ix2 s l) : EReal) = 0 := by
  pointwise [val_main_v32, val_main_cst_5]

/-- The pooled value: the sum over the nodes whose segment word, read signed, is that segment. -/
theorem read_pool (s l : Fin 64) : (val_main_v34 (F := Ideal) x0 x1 x2 x3 x4 x5 x6 x7 x8 x9 x10 (ix2 s l) : EReal)
    = ∑ i : Fin 10000, if (x2 (ix1 i)).toInt = (s.val : ℤ) then val_main_v31 (F := Ideal) x0 x1 x3 x4 x5 x6 x7 x8 x9 x10 (ix2 i l) else 0 := by
  have h := Cert.Gcn.scatter_rows scatter_S64x64_S10000x1_S10000x64_1_0_0_1 rfl rfl rfl rfl (val_main_v32 (F := Ideal))
    (val_main_v33 (F := Ideal) x2) (val_main_v31 (F := Ideal) x0 x1 x3 x4 x5 x6 x7 x8 x9 x10) s l
  simp only [← ix2_eq_valueIdx] at h
  refine Eq.trans ?_ (h.trans ?_)
  · rfl
  · rw [read_zero, zero_add]
    exact Finset.sum_congr rfl fun i _ => by rw [read_word]

section lift

variable (A : Mat 10000 10000) (X : Mat 10000 256) (W1 : Mat 256 256) (b1 : Fin 256 → ℝ) (W2 : Mat 256 256) (b2 : Fin 256 → ℝ)
  (W3 : Mat 256 128) (b3 : Fin 128 → ℝ) (W4 : Mat 128 64) (b4 : Fin 64 → ℝ)
  (hX : ∀ i k, x0 (ix2 i k) = toEReal (X i k)) (hA : ∀ i k, x1 (ix2 i k) = toEReal (A i k))
  (hW1 : ∀ i k, x3 (ix2 i k) = toEReal (W1 i k)) (hb1 : ∀ k, x4 (ix1 k) = toEReal (b1 k))
  (hW2 : ∀ i k, x5 (ix2 i k) = toEReal (W2 i k)) (hb2 : ∀ k, x6 (ix1 k) = toEReal (b2 k))
  (hW3 : ∀ i k, x7 (ix2 i k) = toEReal (W3 i k)) (hb3 : ∀ k, x8 (ix1 k) = toEReal (b3 k))
  (hW4 : ∀ i k, x9 (ix2 i k) = toEReal (W4 i k)) (hb4 : ∀ k, x10 (ix1 k) = toEReal (b4 k))

include hA in
/-- The de-quantised adjacency is real. -/
theorem lift_deq (i p : Fin 10000) : (val_main_v9 (F := Ideal) x1 (ix2 i p) : EReal) = toEReal (deq A i p) := by
  rw [read_deq, hA, half_f32, c254_f32, c127_f32, cm128_f32, ← EReal.coe_sub, ← EReal.coe_mul]
  have h : Ideal.liftRound Ideal.roundHalfEven (toEReal ((A i p - 1 / 2) * 254)) = toEReal ((Ideal.roundHalfEven ((A i p - 1 / 2) * 254) : ℤ) : ℝ) := rfl
  rw [h, coe_max, coe_min]
  have h2 : ∀ a : ℝ, Ideal.div (toEReal a) (toEReal 254) = toEReal (a / 254) := fun a => by
    simp [Ideal.div]
    rw [← EReal.coe_inv, ← EReal.coe_mul, div_eq_mul_inv]
  rw [h2, ← EReal.coe_add]
  rfl

include hX hA hW1 hb1 in
/-- The first layer is real. -/
theorem lift_l1 (i : Fin 10000) (l : Fin 256) : (val_main_v15 (F := Ideal) x0 x1 x3 x4 (ix2 i l) : EReal) = toEReal (ref1 A X W1 b1 i l) := by
  rw [read_l1]
  simp only [hX, hA, hW1, hb1, coe_dot, coe_act]
  rfl

include hX hA hW1 hb1 hW2 hb2 in
/-- The second layer is real. -/
theorem lift_l2 (i : Fin 10000) (l : Fin 256) :
    (val_main_v21 (F := Ideal) x0 x1 x3 x4 x5 x6 (ix2 i l) : EReal) = toEReal (ref2 A X W1 b1 W2 b2 i l) := by
  rw [read_l2]
  simp only [lift_deq x1 A hA, lift_l1 x0 x1 x3 x4 A X W1 b1 hX hA hW1 hb1, hW2, hb2, coe_dot, coe_act]
  rfl

include hX hA hW1 hb1 hW2 hb2 hW3 hb3 in
/-- The third layer is real. -/
theorem lift_l3 (i : Fin 10000) (l : Fin 128) :
    (val_main_v27 (F := Ideal) x0 x1 x3 x4 x5 x6 x7 x8 (ix2 i l) : EReal) = toEReal (ref3 A X W1 b1 W2 b2 W3 b3 i l) := by
  rw [read_l3]
  simp only [lift_deq x1 A hA, lift_l2 x0 x1 x3 x4 x5 x6 A X W1 b1 W2 b2 hX hA hW1 hb1 hW2 hb2, hW3, hb3, coe_dot, coe_act]
  rfl

include hX hA hW1 hb1 hW2 hb2 hW3 hb3 hW4 hb4 in
/-- The node scores are real. -/
theorem lift_y (i : Fin 10000) (l : Fin 64) :
    (val_main_v31 (F := Ideal) x0 x1 x3 x4 x5 x6 x7 x8 x9 x10 (ix2 i l) : EReal) = toEReal (refY A X W1 b1 W2 b2 W3 b3 W4 b4 i l) := by
  rw [read_y]
  simp only [lift_l3 x0 x1 x3 x4 x5 x6 x7 x8 A X W1 b1 W2 b2 W3 b3 hX hA hW1 hb1 hW2 hb2 hW3 hb3, hW4, hb4, coe_dot]
  rw [← EReal.coe_add]
  rfl

include hX hA hW1 hb1 hW2 hb2 hW3 hb3 hW4 hb4 in
/-- The pooled scores are real. -/
theorem lift_pool (s l : Fin 64) : (val_main_v34 (F := Ideal) x0 x1 x2 x3 x4 x5 x6 x7 x8 x9 x10 (ix2 s l) : EReal)
    = toEReal (Cert.Gcn.pool (fun i => x2 (ix1 i)) (refY A X W1 b1 W2 b2 W3 b3 W4 b4) s l) := by
  rw [read_pool]
  unfold Cert.Gcn.pool
  rw [← coe_sum]
  refine Finset.sum_congr rfl fun i _ => ?_
  rw [lift_y x0 x1 x3 x4 x5 x6 x7 x8 x9 x10 A X W1 b1 W2 b2 W3 b3 W4 b4 hX hA hW1 hb1 hW2 hb2 hW3 hb3 hW4 hb4]
  split <;> rfl

include hX hA hW1 hb1 hW2 hb2 hW3 hb3 hW4 hb4 in
/-- What the reference returns, over the reals: the log-softmax of the pooled node scores. -/
theorem lift_out (s l : Fin 64) : (val_main_v35 (F := Ideal) x0 x1 x2 x3 x4 x5 x6 x7 x8 x9 x10 (ix2 s l) : EReal)
    = toEReal (lsm (Cert.Gcn.pool (fun i => x2 (ix1 i)) (refY A X W1 b1 W2 b2 W3 b3 W4 b4)) s l) := by
  rw [read_out]
  simp only [lift_pool x0 x1 x2 x3 x4 x5 x6 x7 x8 x9 x10 A X W1 b1 W2 b2 W3 b3 W4 b4 hX hA hW1 hb1 hW2 hb2 hW3 hb3 hW4 hb4,
    bot_f32, coe_fold_max, bot_le, sup_of_le_right, max_eq_right]
  exact coe_lsm _ s l

end lift

end Cert.ReferenceIdeal.Gcn
-- ==== Proof.Finite.lean ====
module

public import proofs.«01_k».proof.Defs
public import proofs.«01_k».proof.Proof.Gen.Pre_finite
public import proofs.«01_k».proof.Proof.Spec
public import Idealize.ShloMosaic.Lib.ReduceAll
public import Idealize.ShloMosaic.Lib.Pointwise
public import Idealize.ShloMosaic.Lib.ValueIdx

/-!
The precondition read: every entry of every float argument is a real number.
-/

@[expose] public section

set_option maxRecDepth 16384

noncomputable section

namespace Cert.Gcn

open Idealize.ShloMosaic Idealize.SL.Sem
open Real (toEReal)

/-- An extended real below the top in absolute value is a real. -/
theorem real_of_abs_lt (x : EReal) (h : FloatOps.cmpf (F := Ideal) (φ := .f32) .olt (FloatOps.absf (F := Ideal) (φ := .f32) x) (Ideal.ofBits .f32 0x7F800000#32) = 1#1) :
    ∃ r : ℝ, x = toEReal r := by
  rw [top_f32] at h
  induction x with
  | bot => exact absurd h (by simp [FloatOps.cmpf, FloatOps.absf, Ideal.cmp])
  | coe r => exact ⟨r, rfl⟩
  | top => exact absurd h (by simp [FloatOps.cmpf, FloatOps.absf, Ideal.cmp])

/-- One conjunct of the precondition, decoded. -/
theorem real_of_all {s u : Shape} {axes : List (Fin s.rank)} [Subsingleton u.Idx] (x : FVec Ideal s .f32) (y : FVec Ideal s .f32) (init : u.Idx → BitVec 1)
    (h : s.ReducesTo axes u) (hu : 0 < u.numel) (j : u.Idx) (hy : ∀ i, y i = Ideal.ofBits .f32 0x7F800000#32)
    (e : Host.reduce IntOp.andi (cmpf (F := Ideal) .olt (Host.absf x) y) init h hu j = 1#1) (i : s.Idx) : ∃ r : ℝ, x i = toEReal r := by
  have := Host.reduce_andi_all _ init h hu j e i
  refine real_of_abs_lt (x i) ?_
  rw [← hy i]
  exact this

/-- A shape of rank zero has one index. -/
instance scalar_idx : Subsingleton Cert.Pre_finite.S_.Idx := ⟨fun a b => funext fun d => d.elim0⟩

/-- A conjunction of two bit arrays, at one index. -/
theorem split_and {s : Shape} (a b : IVec s 1) (j : s.Idx) (h : andi a b j = 1#1) : a j = 1#1 ∧ b j = 1#1 :=
  IntOp.andi_eq_one.mp h

open Cert.Pre_finite Cert.Pre_finite.Gen in
/-- Under the precondition every entry of every float argument is a real. -/
theorem finite_args (x0 : FVec Ideal S10000x256 .f32) (x1 : FVec Ideal S10000x10000 .f32) (x2 : IVec S10000 32)
    (x3 : FVec Ideal S256x256 .f32) (x4 : FVec Ideal S256 .f32) (x5 : FVec Ideal S256x256 .f32) (x6 : FVec Ideal S256 .f32)
    (x7 : FVec Ideal S256x128 .f32) (x8 : FVec Ideal S128 .f32) (x9 : FVec Ideal S128x64 .f32) (x10 : FVec Ideal S64 .f32)
    (h : Cert.Pre_finite.fn (F := Ideal) x0 x1 x2 x3 x4 x5 x6 x7 x8 x9 x10 = fun _ => 1#1) :
    (∀ i, ∃ r : ℝ, x0 i = toEReal r) ∧ (∀ i, ∃ r : ℝ, x1 i = toEReal r) ∧ (∀ i, ∃ r : ℝ, x3 i = toEReal r)
    ∧ (∀ i, ∃ r : ℝ, x4 i = toEReal r) ∧ (∀ i, ∃ r : ℝ, x5 i = toEReal r) ∧ (∀ i, ∃ r : ℝ, x6 i = toEReal r)
    ∧ (∀ i, ∃ r : ℝ, x7 i = toEReal r) ∧ (∀ i, ∃ r : ℝ, x8 i = toEReal r) ∧ (∀ i, ∃ r : ℝ, x9 i = toEReal r)
    ∧ (∀ i, ∃ r : ℝ, x10 i = toEReal r) := by
  have e := congrFun h ix0
  unfold fn fn_part1 fn_part2 at e
  obtain ⟨e, e10⟩ := split_and _ _ _ e
  obtain ⟨e, e9⟩ := split_and _ _ _ e
  obtain ⟨e, e8⟩ := split_and _ _ _ e
  obtain ⟨e, e7⟩ := split_and _ _ _ e
  obtain ⟨e, e6⟩ := split_and _ _ _ e
  obtain ⟨e, e5⟩ := split_and _ _ _ e
  obtain ⟨e, e4⟩ := split_and _ _ _ e
  obtain ⟨e, e3⟩ := split_and _ _ _ e
  obtain ⟨e0, e1⟩ := split_and _ _ _ e
  exact ⟨real_of_all _ _ _ _ _ _ (fun _ => rfl) e0, real_of_all _ _ _ _ _ _ (fun _ => rfl) e1,
    real_of_all _ _ _ _ _ _ (fun _ => rfl) e3, real_of_all _ _ _ _ _ _ (fun _ => rfl) e4,
    real_of_all _ _ _ _ _ _ (fun _ => rfl) e5, real_of_all _ _ _ _ _ _ (fun _ => rfl) e6,
    real_of_all _ _ _ _ _ _ (fun _ => rfl) e7, real_of_all _ _ _ _ _ _ (fun _ => rfl) e8,
    real_of_all _ _ _ _ _ _ (fun _ => rfl) e9, real_of_all _ _ _ _ _ _ (fun _ => rfl) e10⟩

end Cert.Gcn
-- ==== Proof.Agree.lean ====
module

public import proofs.«01_k».proof.Proof.Lift
public import proofs.«01_k».proof.Proof.Ref
public import proofs.«01_k».proof.Proof.Finite

/-!
The equation: of finite arguments, the array the kernel leaves is the array the reference computes.
-/

@[expose] public section

set_option maxRecDepth 16384

noncomputable section

namespace Cert.Gcn

open Idealize.ShloMosaic Idealize.ShloMosaic.TcCoe Idealize.SL.Sem
open Cert.KernelIdeal (nD τ sig main_arg0 main_arg1 main_arg2 main_arg3 main_arg4 main_arg5 main_arg6 main_arg7 main_arg8 main_arg9 main_arg10)
open Real (toEReal)

/-- The kernel's result is the reference's, entry by entry: both are the log-softmax of the pooled node scores. -/
theorem agree (m : (ℓ : Loc nD τ sig) → Buf (Elt Ideal) ℓ) (c : Dev nD)
    (hp : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) = fun _ => 1#1) :
    Cert.KernelIdeal.Gcn.result m c
      = Cert.ReferenceIdeal.Read.val_main_v35 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) := by
  obtain ⟨h0, h1, h3, h4, h5, h6, h7, h8, h9, h10⟩ := finite_args _ _ _ _ _ _ _ _ _ _ _ hp
  choose r0 e0 using h0
  choose r1 e1 using h1
  choose r3 e3 using h3
  choose r4 e4 using h4
  choose r5 e5 using h5
  choose r6 e6 using h6
  choose r7 e7 using h7
  choose r8 e8 using h8
  choose r9 e9 using h9
  choose r10 e10 using h10
  have hk : Cert.KernelIdeal.Gcn.Holds m c (fun i k => r1 (ix2 i k)) (fun i k => r0 (ix2 i k)) (fun i k => r3 (ix2 i k)) (fun k => r4 (ix1 k))
      (fun i k => r5 (ix2 i k)) (fun k => r6 (ix1 k)) (fun i k => r7 (ix2 i k)) (fun k => r8 (ix1 k)) (fun i k => r9 (ix2 i k)) (fun k => r10 (ix1 k)) :=
    ⟨fun _ _ => e0 _, fun _ _ => e1 _, fun _ _ => e3 _, fun _ => e4 _, fun _ _ => e5 _, fun _ => e6 _, fun _ _ => e7 _, fun _ => e8 _,
      fun _ _ => e9 _, fun _ => e10 _⟩
  funext j
  have hj : j = ix2 (j 0) (j 1) := eq_ix2 j
  rw [hj]
  refine (Cert.KernelIdeal.Gcn.result_real hk (j 0) (j 1)).trans ?_
  refine (congrArg (fun Y => toEReal (lsm (Cert.Gcn.pool (g := 64) (o := 64) _ Y) (j 0) (j 1))) (kerY_eq_refY _ _ _ _ _ _ _ _ _ _)).trans ?_
  exact (Cert.ReferenceIdeal.Gcn.lift_out _ _ _ _ _ _ _ _ _ _ _ (fun i k => r1 (ix2 i k)) (fun i k => r0 (ix2 i k)) (fun i k => r3 (ix2 i k))
    (fun k => r4 (ix1 k)) (fun i k => r5 (ix2 i k)) (fun k => r6 (ix1 k)) (fun i k => r7 (ix2 i k)) (fun k => r8 (ix1 k))
    (fun i k => r9 (ix2 i k)) (fun k => r10 (ix1 k)) hk.x hk.a hk.w1 hk.b1 hk.w2 hk.b2 hk.w3 hk.b3 hk.w4 hk.b4 (j 0) (j 1)).symm

end Cert.Gcn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Run
public import proofs.«01_k».proof.Proof.Agree
public import Idealize.ShloMosaic.Lib.Quiescent
public import Idealize.ShloMosaic.Adequacy
public import Idealize.ShloMosaic.Init

@[expose] public section

noncomputable section

/-! Each program's frame, the named constant's value, and the equation of the kernel and the reference. -/

namespace Cert.Proof

open Idealize.ShloMosaic Idealize.ShloMosaic.TcCoe Idealize.SL.Sem

/-- The reference terminates with its arguments unchanged; it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Of finite arguments the kernel and the reference leave the same result, and both keep their arguments. -/
theorem value : Cert.algebraic_KernelIdeal_ReferenceIdeal_pre_finite := by
  intro m ρ m' ρ' hpre hargs
  refine ⟨fun c => Cert.KernelIdeal.Gcn.result m c, ?_, ?_⟩
  · exact (θ_run Cert.KernelIdeal.defs _ _).mono
      (fun r h c => ⟨(h c).1.trans (Cert.KernelIdeal.Gcn.result_eq m ρ c), (h c).2⟩) (Cert.KernelIdeal.Gcn.valueRun m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hargs c
    rw [Cert.ReferenceIdeal.Read.val_main_v35_eq, e0, e1, e2, e3, e4, e5, e6, e7, e8, e9, e10]
    exact (Cert.Gcn.agree m c (hpre c)).symm

/-- Every claim. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial, IdealRules.named_const.statement _ _ _ _ _ rfl, value⟩

end Cert.Proof

end
